-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x2560 : Shape := ⟨3, ![16, 512, 2560]⟩
abbrev S1280x10240 : Shape := ⟨2, ![1280, 10240]⟩
abbrev S20x10240 : Shape := ⟨2, ![20, 10240]⟩
abbrev S8192x2560 : Shape := ⟨2, ![8192, 2560]⟩
abbrev S8192x10240 : Shape := ⟨2, ![8192, 10240]⟩
abbrev S8192x1280 : Shape := ⟨2, ![8192, 1280]⟩
abbrev S8192x20 : Shape := ⟨2, ![8192, 20]⟩
abbrev S1024x2560 : Shape := ⟨2, ![1024, 2560]⟩
abbrev S1280x512 : Shape := ⟨2, ![1280, 512]⟩
abbrev S20x512 : Shape := ⟨2, ![20, 512]⟩
abbrev S1024x512 : Shape := ⟨2, ![1024, 512]⟩
abbrev S1024x1280 : Shape := ⟨2, ![1024, 1280]⟩
abbrev S1024x20 : Shape := ⟨2, ![1024, 20]⟩
abbrev S2560x512 : Shape := ⟨2, ![2560, 512]⟩
abbrev S256x20 : Shape := ⟨2, ![256, 20]⟩
abbrev S256x128 : Shape := ⟨2, ![256, 128]⟩
abbrev S256 : Shape := ⟨1, ![256]⟩
abbrev S256x1 : Shape := ⟨2, ![256, 1]⟩
abbrev S64x128 : Shape := ⟨2, ![64, 128]⟩
abbrev S64x128x1 : Shape := ⟨3, ![64, 128, 1]⟩
abbrev S64x512 : Shape := ⟨2, ![64, 512]⟩
abbrev S128x512 : Shape := ⟨2, ![128, 512]⟩
abbrev S1x512 : Shape := ⟨2, ![1, 512]⟩

abbrev nBuf : Space → Nat
  | .hbm => 8
  | .vmem => 16
  | .smem => 0
  | _ => 0

abbrev bufTy : (tb : Table) → Fin (tcTables nBuf tb) → BufTy
  | .hbm, ⟨0, _⟩ => ⟨S16x512x2560, .bf16⟩
  | .hbm, ⟨1, _⟩ => ⟨S1280x10240, .i8⟩
  | .hbm, ⟨2, _⟩ => ⟨S20x10240, .f32⟩
  | .hbm, ⟨3, _⟩ => ⟨S8192x2560, .bf16⟩
  | .hbm, ⟨4, _⟩ => ⟨S8192x10240, .bf16⟩
  | .hbm, ⟨5, _⟩ => ⟨S8192x1280, .i8⟩
  | .hbm, ⟨6, _⟩ => ⟨S8192x20, .f32⟩
  | .hbm, ⟨7, _⟩ => ⟨S8192x20, .i8⟩
  | .local _ .vmem, ⟨0, _⟩ => ⟨S1024x2560, .bf16⟩
  | .local _ .vmem, ⟨1, _⟩ => ⟨S1024x2560, .bf16⟩
  | .local _ .vmem, ⟨2, _⟩ => ⟨S1280x512, .i8⟩
  | .local _ .vmem, ⟨3, _⟩ => ⟨S1280x512, .i8⟩
  | .local _ .vmem, ⟨4, _⟩ => ⟨S20x512, .f32⟩
  | .local _ .vmem, ⟨5, _⟩ => ⟨S20x512, .f32⟩
  | .local _ .vmem, ⟨6, _⟩ => ⟨S1024x512, .bf16⟩
  | .local _ .vmem, ⟨7, _⟩ => ⟨S1024x512, .bf16⟩
  | .local _ .vmem, ⟨8, _⟩ => ⟨S1024x1280, .i8⟩
  | .local _ .vmem, ⟨9, _⟩ => ⟨S1024x1280, .i8⟩
  | .local _ .vmem, ⟨10, _⟩ => ⟨S1024x20, .f32⟩
  | .local _ .vmem, ⟨11, _⟩ => ⟨S1024x20, .f32⟩
  | .local _ .vmem, ⟨12, _⟩ => ⟨S1024x20, .i8⟩
  | .local _ .vmem, ⟨13, _⟩ => ⟨S1024x20, .i8⟩
  | .local _ .vmem, ⟨14, _⟩ => ⟨S1024x2560, .bf16⟩
  | .local _ .vmem, ⟨15, _⟩ => ⟨S2560x512, .bf16⟩
  | _, _ => ⟨S16x512x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_155 : BitVec 32 := 0#32
  let c4_i32 : BitVec 32 := 4#32
  let v388 : BitVec 32 := Scalar.addi c0_i32_155 c4_i32
  let c1_i32 : BitVec 32 := 1#32
  ⟨c0_i32_155, v388, c1_i32⟩
def k0_off1 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v395 : Index := Scalar.indexCast v391
  let c0_161 : Index := 0#32
  ![v395.toNat, 0]
def k0_off2 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v447 : Index := Scalar.indexCast v391
  let c128_174 : Index := 128#32
  ![v447.toNat, 128]
def k0_off3 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v538 : Index := Scalar.indexCast v391
  let c0_194 : Index := 0#32
  ![v538.toNat, 0]
def k0_off4 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v540 : Index := Scalar.indexCast v391
  let c256_195 : Index := 256#32
  ![v540.toNat, 256]
def k0_off5 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v592 : Index := Scalar.indexCast v391
  let c384_208 : Index := 384#32
  ![v592.toNat, 384]
def k0_off6 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v683 : Index := Scalar.indexCast v391
  let c128_231 : Index := 128#32
  ![v683.toNat, 128]
def k0_off7 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v685 : Index := Scalar.indexCast v391
  let c512_232 : Index := 512#32
  ![v685.toNat, 512]
def k0_off8 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v737 : Index := Scalar.indexCast v391
  let c640_245 : Index := 640#32
  ![v737.toNat, 640]
def k0_off9 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v828 : Index := Scalar.indexCast v391
  let c256_268 : Index := 256#32
  ![v828.toNat, 256]
def k0_off10 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v830 : Index := Scalar.indexCast v391
  let c768_269 : Index := 768#32
  ![v830.toNat, 768]
def k0_off11 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v882 : Index := Scalar.indexCast v391
  let c896_281 : Index := 896#32
  ![v882.toNat, 896]
def k0_off12 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v973 : Index := Scalar.indexCast v391
  let c384_304 : Index := 384#32
  ![v973.toNat, 384]
def k0_off13 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v975 : Index := Scalar.indexCast v391
  let c1024_305 : Index := 1024#32
  ![v975.toNat, 1024]
def k0_off14 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1027 : Index := Scalar.indexCast v391
  let c1152_317 : Index := 1152#32
  ![v1027.toNat, 1152]
def k0_off15 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1118 : Index := Scalar.indexCast v391
  let c512_340 : Index := 512#32
  ![v1118.toNat, 512]
def k0_off16 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1120 : Index := Scalar.indexCast v391
  let c1280_341 : Index := 1280#32
  ![v1120.toNat, 1280]
def k0_off17 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1172 : Index := Scalar.indexCast v391
  let c1408_353 : Index := 1408#32
  ![v1172.toNat, 1408]
def k0_off18 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1263 : Index := Scalar.indexCast v391
  let c640_376 : Index := 640#32
  ![v1263.toNat, 640]
def k0_off19 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1265 : Index := Scalar.indexCast v391
  let c1536_377 : Index := 1536#32
  ![v1265.toNat, 1536]
def k0_off20 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1317 : Index := Scalar.indexCast v391
  let c1664_390 : Index := 1664#32
  ![v1317.toNat, 1664]
def k0_off21 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1408 : Index := Scalar.indexCast v391
  let c768_413 : Index := 768#32
  ![v1408.toNat, 768]
def k0_off22 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1410 : Index := Scalar.indexCast v391
  let c1792_414 : Index := 1792#32
  ![v1410.toNat, 1792]
def k0_off23 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1462 : Index := Scalar.indexCast v391
  let c1920_426 : Index := 1920#32
  ![v1462.toNat, 1920]
def k0_off24 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1553 : Index := Scalar.indexCast v391
  let c896_449 : Index := 896#32
  ![v1553.toNat, 896]
def k0_off25 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1555 : Index := Scalar.indexCast v391
  let c2048_450 : Index := 2048#32
  ![v1555.toNat, 2048]
def k0_off26 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1607 : Index := Scalar.indexCast v391
  let c2176_462 : Index := 2176#32
  ![v1607.toNat, 2176]
def k0_off27 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1698 : Index := Scalar.indexCast v391
  let c1024_485 : Index := 1024#32
  ![v1698.toNat, 1024]
def k0_off28 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1700 : Index := Scalar.indexCast v391
  let c2304_486 : Index := 2304#32
  ![v1700.toNat, 2304]
def k0_off29 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1752 : Index := Scalar.indexCast v391
  let c2432_498 : Index := 2432#32
  ![v1752.toNat, 2432]
def k0_off30 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1843 : Index := Scalar.indexCast v391
  let c1152_521 : Index := 1152#32
  ![v1843.toNat, 1152]
def k0_off31 (k0_t1 : Fin k0_t1_loop.trips) : Fin 2 → Nat :=
  let c0_i32_158 : BitVec 32 := 0#32
  let c0_i32_155 : BitVec 32 := 0#32
  let c1_i32 : BitVec 32 := 1#32
  let arg11 : BitVec 32 := Scf.iv c0_i32_155 c1_i32 k0_t1
  let c1_i32_157 : BitVec 32 := 1#32
  let v389 : BitVec 32 := Scalar.muli arg11 c1_i32_157
  let v390 : BitVec 32 := Scalar.addi c0_i32_158 v389
  let c256_i32 : BitVec 32 := 256#32
  let v391 : BitVec 32 := Scalar.muli v390 c256_i32
  let v1845 : Index := Scalar.indexCast v391
  let c0_522 : Index := 0#32
  ![v1845.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S20x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1280 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x20 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16x512x2560 : Shape := ⟨3, ![16, 512, 2560]⟩
abbrev S1280x10240 : Shape := ⟨2, ![1280, 10240]⟩
abbrev S20x10240 : Shape := ⟨2, ![20, 10240]⟩
abbrev S16x512x20x128 : Shape := ⟨4, ![16, 512, 20, 128]⟩
abbrev S_ : Shape := ⟨0, ![]⟩
abbrev S16x512x20 : Shape := ⟨3, ![16, 512, 20]⟩
abbrev S16x512x20x1 : Shape := ⟨4, ![16, 512, 20, 1]⟩
abbrev S16x512x1280 : Shape := ⟨3, ![16, 512, 1280]⟩
abbrev S20x64x10240 : Shape := ⟨3, ![20, 64, 10240]⟩
abbrev S16x512x10240 : Shape := ⟨3, ![16, 512, 10240]⟩
abbrev S8192x10240 : Shape := ⟨2, ![8192, 10240]⟩
abbrev S8192x1280 : Shape := ⟨2, ![8192, 1280]⟩
abbrev S8192x20 : Shape := ⟨2, ![8192, 20]⟩

abbrev nBuf : Space → Nat
  | .hbm => 106
  | .vmem => 0
  | .smem => 0
  | _ => 0

abbrev bufTy : (tb : Table) → Fin (tcTables nBuf tb) → BufTy
  | .hbm, ⟨0, _⟩ => ⟨S16x512x2560, .bf16⟩
  | .hbm, ⟨1, _⟩ => ⟨S1280x10240, .i8⟩
  | .hbm, ⟨2, _⟩ => ⟨S20x10240, .f32⟩
  | .hbm, ⟨3, _⟩ => ⟨S16x512x2560, .f32⟩
  | .hbm, ⟨4, _⟩ => ⟨S16x512x20x128, .f32⟩
  | .hbm, ⟨5, _⟩ => ⟨S_, .f32⟩
  | .hbm, ⟨6, _⟩ => ⟨S16x512x20, .f32⟩
  | .hbm, ⟨7, _⟩ => ⟨S_, .f32⟩
  | .hbm, ⟨8, _⟩ => ⟨S16x512x20, .f32⟩
  | .hbm, ⟨9, _⟩ => ⟨S16x512x20, .f32⟩
  | .hbm, ⟨10, _⟩ => ⟨S_, .f32⟩
  | .hbm, ⟨11, _⟩ => ⟨S16x512x20, .f32⟩
  | .hbm, ⟨12, _⟩ => ⟨S_, .f32⟩
  | .hbm, ⟨13, _⟩ => ⟨S16x512x20, .f32⟩
  | .hbm, ⟨14, _⟩ => ⟨S16x512x20, .f32⟩
  | .hbm, ⟨15, _⟩ => ⟨S16x512x20, .i1⟩
  | .hbm, ⟨16, _⟩ => ⟨S16x512x20, .f32⟩
  | .hbm, ⟨17, _⟩ => ⟨S_, .f32⟩
  | .hbm, ⟨18, _⟩ => ⟨S16x512x20, .f32⟩
  | .hbm, ⟨19, _⟩ => ⟨S16x512x20, .f32⟩
  | .hbm, ⟨20, _⟩ => ⟨S_, .f32⟩
  | .hbm, ⟨21, _⟩ => ⟨S16x512x20, .f32⟩
  | .hbm, ⟨22, _⟩ => ⟨S16x512x20, .f32⟩
  | .hbm, ⟨23, _⟩ => ⟨S16x512x20, .f32⟩
  | .hbm, ⟨24, _⟩ => ⟨S16x512x20, .f32⟩
  | .hbm, ⟨25, _⟩ => ⟨S16x512x20, .f32⟩
  | .hbm, ⟨26, _⟩ => ⟨S16x512x20x1, .f32⟩
  | .hbm, ⟨27, _⟩ => ⟨S16x512x20x128, .f32⟩
  | .hbm, ⟨28, _⟩ => ⟨S16x512x20x128, .f32⟩
  | .hbm, ⟨29, _⟩ => ⟨S16x512x20x128, .f32⟩
  | .hbm, ⟨30, _⟩ => ⟨S16x512x20x1, .f32⟩
  | .hbm, ⟨31, _⟩ => ⟨S16x512x20x128, .f32⟩
  | .hbm, ⟨32, _⟩ => ⟨S16x512x20x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16x512x20x128, .f32⟩
  | .hbm, ⟨37, _⟩ => ⟨S16x512x20x128, .f32⟩
  | .hbm, ⟨38, _⟩ => ⟨S_, .f32⟩
  | .hbm, ⟨39, _⟩ => ⟨S16x512x20x128, .f32⟩
  | .hbm, ⟨40, _⟩ => ⟨S16x512x20x128, .f32⟩
  | .hbm, ⟨41, _⟩ => ⟨S16x512x20x128, .i32⟩
  | .hbm, ⟨42, _⟩ => ⟨S16x512x20x128, .i8⟩
  | .hbm, ⟨43, _⟩ => ⟨S16x512x20, .i32⟩
  | .hbm, ⟨44, _⟩ => ⟨S16x512x20, .i8⟩
  | .hbm, ⟨45, _⟩ => ⟨S16x512x20x128, .i8⟩
  | .hbm, ⟨46, _⟩ => ⟨S16x512x20, .f32⟩
  | .hbm, ⟨47, _⟩ => ⟨S16x512x20, .i8⟩
  | .hbm, ⟨48, _⟩ => ⟨S16x512x2560, .i8⟩
  | .hbm, ⟨49, _⟩ => ⟨S16x512x2560, .i32⟩
  | .hbm, ⟨50, _⟩ => ⟨S16x512x1280, .i32⟩
  | .hbm, ⟨51, _⟩ => ⟨S16x512x1280, .i32⟩
  | .hbm, ⟨52, _⟩ => ⟨S_, .i32⟩
  | .hbm, ⟨53, _⟩ => ⟨S16x512x1280, .i32⟩
  | .hbm, ⟨54, _⟩ => ⟨S16x512x1280, .i32⟩
  | .hbm, ⟨55, _⟩ => ⟨S16x512x1280, .i32⟩
  | .hbm, ⟨56, _⟩ => ⟨S16x512x1280, .i8⟩
  | .hbm, ⟨57, _⟩ => ⟨S16x512x20x128, .i32⟩
  | .hbm, ⟨58, _⟩ => ⟨S16x512x20, .i32⟩
  | .hbm, ⟨59, _⟩ => ⟨S16x512x20x1, .i32⟩
  | .hbm, ⟨60, _⟩ => ⟨S16x512x20x128, .i32⟩
  | .hbm, ⟨61, _⟩ => ⟨S16x512x20x128, .i32⟩
  | .hbm, ⟨62, _⟩ => ⟨S16x512x20x128, .bf16⟩
  | .hbm, ⟨63, _⟩ => ⟨S16x512x20, .bf16⟩
  | .hbm, ⟨64, _⟩ => ⟨S16x512x20x1, .bf16⟩
  | .hbm, ⟨65, _⟩ => ⟨S16x512x20x128, .bf16⟩
  | .hbm, ⟨66, _⟩ => ⟨S16x512x20x128, .bf16⟩
  | .hbm, ⟨67, _⟩ => ⟨S16x512x2560, .bf16⟩
  | .hbm, ⟨68, _⟩ => ⟨S16x512x1280, .bf16⟩
  | .hbm, ⟨69, _⟩ => ⟨S16x512x1280, .bf16⟩
  | .hbm, ⟨70, _⟩ => ⟨S1280x10240, .i32⟩
  | .hbm, ⟨71, _⟩ => ⟨S_, .i32⟩
  | .hbm, ⟨72, _⟩ => ⟨S1280x10240, .i32⟩
  | .hbm, ⟨73, _⟩ => ⟨S1280x10240, .i32⟩
  | .hbm, ⟨74, _⟩ => ⟨S_, .i32⟩
  | .hbm, ⟨75, _⟩ => ⟨S1280x10240, .i32⟩
  | .hbm, ⟨76, _⟩ => ⟨S1280x10240, .i1⟩
  | .hbm, ⟨77, _⟩ => ⟨S_, .i32⟩
  | .hbm, ⟨78, _⟩ => ⟨S1280x10240, .i32⟩
  | .hbm, ⟨79, _⟩ => ⟨S1280x10240, .i32⟩
  | .hbm, ⟨80, _⟩ => ⟨S1280x10240, .i32⟩
  | .hbm, ⟨81, _⟩ => ⟨S1280x10240, .bf16⟩
  | .hbm, ⟨82, _⟩ => ⟨S_, .i32⟩
  | .hbm, ⟨83, _⟩ => ⟨S1280x10240, .i32⟩
  | .hbm, ⟨84, _⟩ => ⟨S1280x10240, .i32⟩
  | .hbm, ⟨85, _⟩ => ⟨S_, .i32⟩
  | .hbm, ⟨86, _⟩ => ⟨S1280x10240, .i32⟩
  | .hbm, ⟨87, _⟩ => ⟨S1280x10240, .i1⟩
  | .hbm, ⟨88, _⟩ => ⟨S_, .i32⟩
  | .hbm, ⟨89, _⟩ => ⟨S1280x10240, .i32⟩
  | .hbm, ⟨90, _⟩ => ⟨S1280x10240, .i32⟩
  | .hbm, ⟨91, _⟩ => ⟨S1280x10240, .i32⟩
  | .hbm, ⟨92, _⟩ => ⟨S1280x10240, .bf16⟩
  | .hbm, ⟨93, _⟩ => ⟨S20x10240, .bf16⟩
  | .hbm, ⟨94, _⟩ => ⟨S20x64x10240, .bf16⟩
  | .hbm, ⟨95, _⟩ => ⟨S1280x10240, .bf16⟩
  | .hbm, ⟨96, _⟩ => ⟨S1280x10240, .bf16⟩
  | .hbm, ⟨97, _⟩ => ⟨S1280x10240, .bf16⟩
  | .hbm, ⟨98, _⟩ => ⟨S16x512x10240, .f32⟩
  | .hbm, ⟨99, _⟩ => ⟨S16x512x10240, .f32⟩
  | .hbm, ⟨100, _⟩ => ⟨S16x512x10240, .f32⟩
  | .hbm, ⟨101, _⟩ => ⟨S16x512x10240, .bf16⟩
  | .hbm, ⟨102, _⟩ => ⟨S8192x10240, .bf16⟩
  | .hbm, ⟨103, _⟩ => ⟨S8192x1280, .i8⟩
  | .hbm, ⟨104, _⟩ => ⟨S8192x20, .f32⟩
  | .hbm, ⟨105, _⟩ => ⟨S8192x20, .i8⟩
  | _, _ => ⟨S16x512x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_cst_6 : Ref sig .tc := ⟨.hbm, 34, rfl⟩
abbrev main_call3_v0 : Ref sig .tc := ⟨.hbm, 35, rfl⟩
abbrev main_call3_v1 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28_0 : Ref sig .tc := ⟨.hbm, 45, rfl⟩
abbrev main_v28_1 : Ref sig .tc := ⟨.hbm, 46, rfl⟩
abbrev main_v28_2 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_v53 : Ref sig .tc := ⟨.hbm, 75, rfl⟩
abbrev main_v54 : Ref sig .tc := ⟨.hbm, 76, rfl⟩
abbrev main_c_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== Proof.Host.lean ====
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments alone, and ends with its counters at zero. -/
theorem frame_r : Cert.quiescent_ReferenceIdeal := by
  intro m ρ _
  exact (θ_run Cert.ReferenceIdeal.defs _ _).mono
    (fun r h => ⟨fun c => ⟨(h c).2.2.2.2.1, (h c).2.2.2.2.2.1, (h c).2.2.2.2.2.2⟩,
      Idealize.ShloMosaic.sem_eq_zero_of_no_sems (by decide) r.2⟩)
    (Cert.ReferenceIdeal.Value.run (F := Ideal) m ρ)

end Cert.Proof

end
-- ==== Proof.KShared.lean ====
/- What the two runs of the kernel's body share: its one condition in closed form, its staging and scratch memrefs. -/
module
public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Hand

open Cert.Kernel.Gen hiding frame_of
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 20) — by arithmetic of the point. -/
theorem hcond0_0 : ∀ t : Fin cfg0.N, cond0_0 (grid0.coords t) ↔ t.val % 20 = 0 :=
  (fun t => by
    have ht : t.val < 160 := Nat.lt_of_lt_of_eq t.isLt N_0
    have e0 : (grid0.coords t 0).val = t.val / 20 % 8 := Pipeline.Grid.coords_val t 0 (by decide) rfl
    have e1 : (grid0.coords t 1).val = t.val / 1 % 20 := Pipeline.Grid.coords_val t 1 (by decide) rfl
    simp only [cond0_0, k0_cond1, e0, e1]
    word_cmp
   : ∀ t : Fin grid0.N, cond0_0 (grid0.coords t) ↔ t.val % 20 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S20x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1280 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x20 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x20 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x2560 .bf16 := Memref.whole cc0_scratch0
abbrev scM0_1 : Memref sig .tc .vmem S2560x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KRunA.lean ====
/- The kernel's body where it quantises (the first column of the grid), nothing said of what it stores. -/
module

public import proofs.«01_k».proof.Proof.KShared

@[expose] public section

set_option maxRecDepth 16384

noncomputable section

namespace Cert.Kernel.Hand

open Cert.Kernel.Gen hiding frame_of
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 20, … 140: 8 of 160): on whole staging memrefs — the inputs' at their contents,
    the FORGOTTEN outputs' (3, 4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1024x2560 .bf16) (harg2 : arg2.IsWhole) (arg3 : Memref sig .tc .vmem S1280x512 .i8) (harg3 : arg3.IsWhole) (arg4 : Memref sig .tc .vmem S20x512 .f32) (harg4 : arg4.IsWhole) (arg5 : Memref sig .tc .vmem S1024x512 .bf16) (harg5 : arg5.IsWhole) (arg6 : Memref sig .tc .vmem S1024x1280 .i8) (harg6 : arg6.IsWhole) (arg7 : Memref sig .tc .vmem S1024x20 .f32) (harg7 : arg7.IsWhole) (arg8 : Memref sig .tc .vmem S1024x20 .i8) (harg8 : arg8.IsWhole) (arg9 : Memref sig .tc .vmem S1024x2560 .bf16) (harg9 : arg9.IsWhole) (arg10 : Memref sig .tc .vmem S2560x512 .bf16) (harg10 : arg10.IsWhole) (hc0 : cond0_0 i)
    (x0 : Vec F S1024x2560 .bf16) (x1 : Vec F S1280x512 .i8) (x2 : Vec F S20x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_atom_w4a4_linear i arg2 harg2 arg3 harg3 arg4 harg4 arg5 harg5 arg6 harg6 arg7 harg7 arg8 harg8 arg9 harg9 arg10 harg10) K := by
    intro E K
    simp only [cc0_atom_w4a4_linear_eq_skeleton]; unfold cc0_atom_w4a4_linear_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Hand

end
-- ==== Proof.KRunB.lean ====
/- The kernel's body where it does not quantise, nothing said of what it stores. -/
module

public import proofs.«01_k».proof.Proof.KRunA

@[expose] public section

set_option maxRecDepth 16384

noncomputable section

namespace Cert.Kernel.Hand

open Cert.Kernel.Gen hiding frame_of
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 159: 152 of 160): on whole staging memrefs — the inputs' at their contents,
    the FORGOTTEN outputs' (3, 4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1024x2560 .bf16) (harg2 : arg2.IsWhole) (arg3 : Memref sig .tc .vmem S1280x512 .i8) (harg3 : arg3.IsWhole) (arg4 : Memref sig .tc .vmem S20x512 .f32) (harg4 : arg4.IsWhole) (arg5 : Memref sig .tc .vmem S1024x512 .bf16) (harg5 : arg5.IsWhole) (arg6 : Memref sig .tc .vmem S1024x1280 .i8) (harg6 : arg6.IsWhole) (arg7 : Memref sig .tc .vmem S1024x20 .f32) (harg7 : arg7.IsWhole) (arg8 : Memref sig .tc .vmem S1024x20 .i8) (harg8 : arg8.IsWhole) (arg9 : Memref sig .tc .vmem S1024x2560 .bf16) (harg9 : arg9.IsWhole) (arg10 : Memref sig .tc .vmem S2560x512 .bf16) (harg10 : arg10.IsWhole) (hc0 : ¬cond0_0 i)
    (x0 : Vec F S1024x2560 .bf16) (x1 : Vec F S1280x512 .i8) (x2 : Vec F S20x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_atom_w4a4_linear i arg2 harg2 arg3 harg3 arg4 harg4 arg5 harg5 arg6 harg6 arg7 harg7 arg8 harg8 arg9 harg9 arg10 harg10) K := by
    intro E K
    simp only [cc0_atom_w4a4_linear_eq_skeleton]; unfold cc0_atom_w4a4_linear_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Hand

end
-- ==== Proof.KFrame.lean ====
/- The kernel at the bit patterns runs to its end, leaves its arguments as they were and every counter at zero. -/
module

public import proofs.«01_k».proof.Proof.KRunB
public import Idealize.ShloMosaic.Lib.Claim

@[expose] public section

set_option maxRecDepth 16384

noncomputable section

namespace Cert.Kernel.Hand

open Cert.Kernel.Gen hiding frame_of
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (3, 4, 5, 6): nothing reads what the kernel leaves in them, so nothing
    of it is named (Lib/Pipeline/Dat.lean `Dat.toRForget`). -/
def forgets0 : Fin 7 → Bool := fun w => w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 160 := lt_of_lt_of_eq t.isLt (show cfg0.N = 160 from N_0)
  by_cases h0 : t.val % 20 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.KIShared.lean ====
/- What the two runs of the kernel's body share: its one condition in closed form, its staging and scratch memrefs. -/
module
public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Hand

open Cert.KernelIdeal.Gen hiding frame_of
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 20) — by arithmetic of the point. -/
theorem hcond0_0 : ∀ t : Fin cfg0.N, cond0_0 (grid0.coords t) ↔ t.val % 20 = 0 :=
  (fun t => by
    have ht : t.val < 160 := Nat.lt_of_lt_of_eq t.isLt N_0
    have e0 : (grid0.coords t 0).val = t.val / 20 % 8 := Pipeline.Grid.coords_val t 0 (by decide) rfl
    have e1 : (grid0.coords t 1).val = t.val / 1 % 20 := Pipeline.Grid.coords_val t 1 (by decide) rfl
    simp only [cond0_0, k0_cond1, e0, e1]
    word_cmp
   : ∀ t : Fin grid0.N, cond0_0 (grid0.coords t) ↔ t.val % 20 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S20x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1280 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x20 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x20 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x2560 .bf16 := Memref.whole cc0_scratch0
abbrev scM0_1 : Memref sig .tc .vmem S2560x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Rows.lean ====
/- One group of 128 inputs quantised to four bits: the range, scale, zero point and codes of a group, as functions of
   the group's values alone. Both programs are read down to these. -/
module

public import Idealize.ShloMosaic.Lib.Pointwise

@[expose] public section

noncomputable section

namespace Cert.Proof

open Idealize.ShloMosaic

/-- The values of one group. -/
abbrev Group := Fin 128 → EReal

/-- Rounding to the nearest integer, ties to even. -/
abbrev rnd (x : EReal) : EReal := Ideal.liftRound Ideal.roundHalfEven x

/-- The least value of the group and zero. -/
def qlo (f : Group) : EReal := min 0 (Finset.univ.fold min (Ideal.ofBits FTy.f32 0x7F800000#32) f)

/-- The greatest value of the group and zero. -/
def qhi (f : Group) : EReal := max 0 (Finset.univ.fold max (Ideal.ofBits FTy.f32 0xFF800000#32) f)

/-- The step between two codes: a fifteenth of the range, or one where the range is empty. -/
def qscale (f : Group) : EReal :=
  if qhi f = qlo f then 1 else Ideal.div (qhi f - qlo f) (Ideal.ofBits FTy.f32 0x41700000#32)

/-- The code that stands for zero. -/
def qzp (f : Group) : EReal := rnd (Ideal.div (0 - qlo f) (qscale f))

/-- The code of element `c`. -/
def qcode (f : Group) (c : Fin 128) : EReal :=
  min (Ideal.ofBits FTy.f32 0x41700000#32) (max 0 (rnd (Ideal.div (f c) (qscale f)) + qzp f))

/-- Element `c` as its code gives it back. -/
def qval (f : Group) (c : Fin 128) : EReal := (qcode f c - qzp f) * qscale f

/-- A code as a byte. -/
def codeByte (x : EReal) : BitVec 8 := (Ideal.fptosi 32 x).setWidth 8

/-- Two codes in one byte, the first in the low half. -/
def pack (e o : EReal) : BitVec 8 := codeByte e ||| (codeByte o <<< 4)

/-- Group `g` of row `r` of a matrix of `n` rows of 20 groups. -/
def grp {n : ℕ} (X : (⟨2, ![n, 2560]⟩ : Shape).Idx → EReal) (r : Fin n) (g : Fin 20) : Group :=
  fun k => X (ix2 r ⟨128 * g.val + k.val, by have := g.isLt; have := k.isLt; show _ < 2560; omega⟩)

/-- The matrix given back by its codes. -/
def tA {n : ℕ} (X : (⟨2, ![n, 2560]⟩ : Shape).Idx → EReal) : (⟨2, ![n, 2560]⟩ : Shape).Idx → EReal := fun j =>
  qval (grp X (j 0) ⟨(j 1).val / 128, by have : (j 1).val < 2560 := (j 1).isLt; omega⟩)
    ⟨(j 1).val % 128, by omega⟩

/-- Its codes, two to a byte. -/
def tC {n : ℕ} (X : (⟨2, ![n, 2560]⟩ : Shape).Idx → EReal) : (⟨2, ![n, 1280]⟩ : Shape).Idx → BitVec 8 := fun j =>
  pack (qcode (grp X (j 0) ⟨(j 1).val / 64, by have : (j 1).val < 1280 := (j 1).isLt; omega⟩)
      ⟨2 * ((j 1).val % 64), by omega⟩)
    (qcode (grp X (j 0) ⟨(j 1).val / 64, by have : (j 1).val < 1280 := (j 1).isLt; omega⟩)
      ⟨2 * ((j 1).val % 64) + 1, by omega⟩)

/-- Its scales, one to a group. -/
def tS {n : ℕ} (X : (⟨2, ![n, 2560]⟩ : Shape).Idx → EReal) : (⟨2, ![n, 20]⟩ : Shape).Idx → EReal := fun j =>
  qscale (grp X (j 0) (j 1))

/-- Its zero points, one to a group. -/
def tZ {n : ℕ} (X : (⟨2, ![n, 2560]⟩ : Shape).Idx → EReal) : (⟨2, ![n, 20]⟩ : Shape).Idx → BitVec 8 := fun j =>
  codeByte (qzp (grp X (j 0) (j 1)))

/-! ## Reading the matrices at an element given by its parts -/

theorem tA_at {n : ℕ} (X : (⟨2, ![n, 2560]⟩ : Shape).Idx → EReal) (r : Fin n) (g : Fin 20) (k : Fin 128) (l : Fin 2560)
    (h : l.val = 128 * g.val + k.val) : tA X (ix2 r l) = qval (grp X r g) k := by
  have hk := k.isLt
  have e1 : (⟨l.val / 128, by omega⟩ : Fin 20) = g := Fin.ext (by show l.val / 128 = g.val; omega)
  have e2 : (⟨l.val % 128, by omega⟩ : Fin 128) = k := Fin.ext (by show l.val % 128 = k.val; omega)
  show qval (grp X r ⟨l.val / 128, _⟩) ⟨l.val % 128, _⟩ = _
  rw [e1, e2]

theorem tC_at {n : ℕ} (X : (⟨2, ![n, 2560]⟩ : Shape).Idx → EReal) (r : Fin n) (g : Fin 20) (k : Fin 64) (l : Fin 1280)
    (h : l.val = 64 * g.val + k.val) : tC X (ix2 r l)
      = pack (qcode (grp X r g) ⟨2 * k.val, by have := k.isLt; omega⟩) (qcode (grp X r g) ⟨2 * k.val + 1, by have := k.isLt; omega⟩) := by
  have hk := k.isLt
  have e1 : (⟨l.val / 64, by omega⟩ : Fin 20) = g := Fin.ext (by show l.val / 64 = g.val; omega)
  have e2 : l.val % 64 = k.val := by omega
  show pack (qcode (grp X r ⟨l.val / 64, _⟩) ⟨2 * (l.val % 64), _⟩) (qcode (grp X r ⟨l.val / 64, _⟩) ⟨2 * (l.val % 64) + 1, _⟩) = _
  rw [e1]
  simp only [e2]

end Cert.Proof
-- ==== Proof.Quant.lean ====
module

public import proofs.«01_k».proof.Proof.Gen.KernelIdeal.Skeleton
public import proofs.«01_k».proof.Proof.Rows
public import Idealize.ShloMosaic.Lib.Pointwise
public import Idealize.ShloMosaic.Lib.BitcastFour
public import Idealize.ShloMosaic.Lib.BitcastPair

@[expose] public section

set_option maxRecDepth 16384

noncomputable section

namespace Cert.Proof

open Idealize.ShloMosaic Cert.KernelIdeal Cert.KernelIdeal.Gen

/-- Row `r` of a block of one group's columns. -/
def row {n : ℕ} (v : (⟨2, ![n, 128]⟩ : Shape).Idx → EReal) (r : Fin n) : Group := fun k => v (ix2 r k)

theorem pay6_at (v : Vec Ideal S256x128 .bf16) (r : Fin 256) :
    k0_pay6 (F := Ideal) v (ix2 r 0) = qlo (row v r) := by
  pointwise [k0_pay6, k0_pay5]
  rfl

theorem pay7_at (v : Vec Ideal S256x128 .bf16) (r : Fin 256) :
    k0_pay7 (F := Ideal) v (ix2 r 0) = qscale (row v r) := by
  pointwise [k0_pay7, k0_pay5, pay6_at]
  rfl
theorem pay8_at (v : Vec Ideal S256x128 .bf16) (r : Fin 256) :
    k0_pay8 (F := Ideal) v (ix2 r 0) = qzp (row v r) := by
  pointwise [k0_pay8, pay6_at, pay7_at]
  rfl
theorem pay9_at (v : Vec Ideal S256x128 .bf16) (r : Fin 256) (c : Fin 128):
    k0_pay9 (F := Ideal) v (ix2 r c) = qcode (row v r) c := by
  pointwise [k0_pay9, k0_pay5, pay8_at, pay7_at]
  rfl
theorem pay11_at (v : Vec Ideal S256x128 .bf16) (r : Fin 256) (c : Fin 128):
    k0_pay11 (k0_pay10 (F := Ideal) v) (ix2 r c) = qval (row v r) c := by
  pointwise [k0_pay11, k0_pay10, pay9_at, pay8_at, pay7_at]
  rfl

/-! ## Two groups' codes packed into one block

The codes of a group are narrowed to bytes, four rows of bytes read as one row of words, each word joined with its
right neighbour shifted by four bits, and every second lane kept. -/

/-- Four rows of bytes read as words. -/
def words (v : FVec Ideal S256x128 .f32) : IVec S64x128 32 :=
  bitcast S64x128 32 (trunci 8 (fptosi 32 v) natLt_8_32) bitcasts_S256x128_w8_S64x128_w32

/-- Words joined with their right neighbours, every second lane kept, the lanes wrapping round. -/
def joined (v : FVec Ideal S256x128 .f32) (r : Fin 64) (l : Fin 128) : BitVec 32 :=
  words v (ix2 r ⟨2 * l.val % 128, by omega⟩) ||| (words v (ix2 r ⟨(2 * l.val + 1) % 128, by omega⟩) <<< 4)

theorem lane_idx (r : Fin 64) (l : Fin 128) : (Scalar.select (IntOp.cmpi CmpIPredicate.slt (k0_pay23 (ix2 r l)) 0#32)
    (IntOp.addi (k0_pay23 (ix2 r l)) 128#32) (k0_pay23 (ix2 r l))).toNat % 128 = 2 * l.val % 128 := by
  pointwise [k0_pay23]
  revert l
  decide +kernel

theorem pay24_at (r : Fin 64) (l : Fin 128) : k0_pay24 (ix2 r l) = BitVec.ofBool (decide (l.val < 64)) := by
  pointwise [k0_pay24]
  revert l
  decide +kernel

theorem shl4 (x : BitVec 32) : IntOp.shli ArithUnit.vector x 4#32 = x <<< 4 := rfl

theorem pay25_at (v : FVec Ideal S256x128 .f32) (r : Fin 64) (l : Fin 128):
    k0_pay25 (F := Ideal) v (ix2 r l) = joined v r l := by
  pointwise [k0_pay25]
  simp only [lane_idx, shl4]
  show words v _ ||| (words v _ <<< 4) = _
  unfold joined
  congr 4
  apply Fin.ext
  show (2 * l.val % 128 + 128 - 127) % 128 = (2 * l.val + 1) % 128
  omega

theorem other_at (w : FVec Ideal S256x128 .f32) (r : Fin 64) (l : Fin 128) :
    dynamicGather 1 (ori (k0_pay26 w) (shli (k0_pay27 w) k0_pay28))
          (select (cmpi CmpIPredicate.slt k0_pay23 (broadcast S64x128 0#32)) (addi k0_pay23 (broadcast S64x128 128#32))
            k0_pay23) (ix2 r l) = joined w r l := by
  pointwise [k0_pay26, k0_pay27, k0_pay28]
  simp only [lane_idx, shl4]
  show words w _ ||| (words w _ <<< 4) = _
  unfold joined
  congr 4
  apply Fin.ext
  show (2 * l.val % 128 + 128 - 127) % 128 = (2 * l.val + 1) % 128
  omega

theorem words_bit (v : FVec Ideal S256x128 .f32) (r : Fin 64) (l : Fin 128) (q : ℕ) (hq : q < 32) :
    (words v (ix2 r l)).getLsbD q
      = (codeByte (v (ix2 ⟨4 * r.val + q / 8, by have := r.isLt; omega⟩ l))).getLsbD (q % 8) := by
  unfold words
  rw [show (ix2 r l : S64x128.Idx) = ValueIdx.ix2 r l from rfl,
    bitcast_8_32_getLsbD_ix2 _ _ r l q hq ⟨4 * r.val + q / 8, by have := r.isLt; omega⟩ rfl]
  rfl

/-- Byte `p` of a joined word is a packed pair, where the codes are four bits wide. -/
theorem joined_bit (v : FVec Ideal S256x128 .f32) (hv : ∀ j b, 4 ≤ b → (codeByte (v j)).getLsbD b = false)
    (r : Fin 64) (l : Fin 128) (p b : ℕ) (hp : p < 4) (hb : b < 8) :
    (joined v r l).getLsbD (8 * p + b)
      = (pack (v (ix2 ⟨4 * r.val + p, by have := r.isLt; omega⟩ ⟨2 * l.val % 128, by omega⟩))
          (v (ix2 ⟨4 * r.val + p, by have := r.isLt; omega⟩ ⟨(2 * l.val + 1) % 128, by omega⟩))).getLsbD b := by
  unfold joined pack
  have hr := r.isLt
  simp only [BitVec.getLsbD_or, BitVec.getLsbD_shiftLeft]
  rw [words_bit v r _ (8 * p + b) (by omega), words_bit v r _ (8 * p + b - 4) (by omega)]
  have e1 : (8 * p + b) / 8 = p := by omega
  have e2 : (8 * p + b) % 8 = b := by omega
  simp only [e1, e2]
  congr 1
  by_cases h4 : b < 4
  · by_cases hlt : 8 * p + b < 4
    · simp [h4, hlt]
    · rw [hv _ ((8 * p + b - 4) % 8) (by omega)]
      simp [h4]
  · have e3 : (8 * p + b - 4) / 8 = p := by omega
    have e4 : (8 * p + b - 4) % 8 = b - 4 := by omega
    simp only [e3, e4]
    simp [h4, hb, show 8 * p + b < 32 by omega, show ¬ 8 * p + b < 4 by omega]

/-- The packed block: lane `l < 64` from the first group, the others from the second. -/
theorem pay29_at (v w : FVec Ideal S256x128 .f32) (hv : ∀ j b, 4 ≤ b → (codeByte (v j)).getLsbD b = false)
    (hw : ∀ j b, 4 ≤ b → (codeByte (w j)).getLsbD b = false) (r : Fin 256) (l : Fin 128) :
    k0_pay29 k0_pay23 k0_pay24 (k0_pay25 v) (k0_pay26 w) (k0_pay27 w) k0_pay28 (ix2 r l)
      = if l.val < 64 then pack (v (ix2 r ⟨2 * l.val % 128, by omega⟩)) (v (ix2 r ⟨(2 * l.val + 1) % 128, by omega⟩))
        else pack (w (ix2 r ⟨2 * l.val % 128, by omega⟩)) (w (ix2 r ⟨(2 * l.val + 1) % 128, by omega⟩)) := by
  pointwise [k0_pay29]
  have hr := r.isLt
  apply BitVec.eq_of_getLsbD_eq
  intro b hb
  rw [bitcast_getLsbD _ _ _ b hb (by decide)]
  have hrow : S256x128.row (ix2 r l : S256x128.Idx) = r.val := rfl
  have hi : ∀ h, bitcasts_S64x128_w32_S256x128_w8.srcIdx (ix2 r l) ((S256x128.row (ix2 r l : S256x128.Idx) * 8 + b) / 32) h
      = (ix2 ⟨r.val / 4, by omega⟩ l : S64x128.Idx) := by
    intro h
    funext a
    match a with
    | 0 => exact Fin.ext (by
        rw [Shape.Bitcasts.srcIdx_row _ _ _ _ _ rfl]
        show (S256x128.row (ix2 r l : S256x128.Idx) * 8 + b) / 32 = r.val / 4
        rw [hrow]; omega)
    | 1 => exact Fin.ext (by rw [Shape.Bitcasts.srcIdx_other _ _ _ _ _ (by decide)]; rfl)
  rw [hi]
  have em : (S256x128.row (ix2 r l : S256x128.Idx) * 8 + b) % 32 = 8 * (r.val % 4) + b := by rw [hrow]; omega
  rw [em]
  have er : (⟨4 * (r.val / 4) + r.val % 4, by omega⟩ : Fin 256) = r := Fin.ext (by show 4 * (r.val / 4) + r.val % 4 = r.val; omega)
  have hsel : (select k0_pay24 (k0_pay25 v)
        (dynamicGather 1 (ori (k0_pay26 w) (shli (k0_pay27 w) k0_pay28))
          (select (cmpi CmpIPredicate.slt k0_pay23 (broadcast S64x128 0#32)) (addi k0_pay23 (broadcast S64x128 128#32))
            k0_pay23))) (ix2 ⟨r.val / 4, by omega⟩ l)
      = if l.val < 64 then joined v ⟨r.val / 4, by omega⟩ l else joined w ⟨r.val / 4, by omega⟩ l := by
    show Scalar.select (k0_pay24 (ix2 ⟨r.val / 4, by omega⟩ l)) (k0_pay25 v (ix2 ⟨r.val / 4, by omega⟩ l)) (dynamicGather 1 _ _ (ix2 ⟨r.val / 4, by omega⟩ l)) = _
    rw [pay24_at, pay25_at, other_at]
    by_cases h : l.val < 64 <;> simp [h, Scalar.select]
  rw [hsel]
  by_cases h : l.val < 64
  · simp only [h, if_true]
    rw [joined_bit v hv _ _ _ _ (by omega) hb]
    simp only [er]
  · simp only [h, if_false]
    rw [joined_bit w hw _ _ _ _ (by omega) hb]
    simp only [er]

end Cert.Proof
-- ==== Proof.Bounds.lean ====
/- What a code can be: zero, one, …, or fifteen, whatever the inputs, infinities included. -/
module

public import proofs.«01_k».proof.Proof.Rows

@[expose] public section

noncomputable section

namespace Cert.Proof

open Idealize.ShloMosaic

theorem c15 : Ideal.ofBits FTy.f32 0x41700000#32 = ((15 : ℝ) : EReal) := by
  simp [Ideal.ofBits, Ideal.ieee]
  norm_num
  rw [← EReal.coe_mul]
  norm_num

theorem cTop : Ideal.ofBits FTy.f32 0x7F800000#32 = ⊤ := by
  simp [Ideal.ofBits, Ideal.ieee]
theorem cBot : Ideal.ofBits FTy.f32 0xFF800000#32 = ⊥ := by
  simp [Ideal.ofBits, Ideal.ieee]

/-- An integer from 0 to 15. -/
def IsCode (x : EReal) : Prop := ∃ n : ℤ, 0 ≤ n ∧ n ≤ 15 ∧ x = ((n : ℝ) : EReal)

/-- An infinity or an integer. -/
def IsInt (x : EReal) : Prop := x = ⊥ ∨ x = ⊤ ∨ ∃ n : ℤ, x = ((n : ℝ) : EReal)

/-- A rounded value is an infinity or an integer. -/
theorem isInt_rnd (x : EReal) : IsInt (rnd x) := by
  induction x with
  | bot => exact .inl rfl
  | top => exact .inr (.inl rfl)
  | coe r => exact .inr (.inr ⟨Ideal.roundHalfEven r, rfl⟩)

theorem IsInt.add {x y : EReal} (hx : IsInt x) (hy : IsInt y) : IsInt (x + y) := by
  rcases hx with rfl | rfl | ⟨n, rfl⟩
  · exact .inl (by simp)
  · rcases hy with rfl | rfl | ⟨k, rfl⟩
    · exact .inl (by simp)
    · exact .inr (.inl (by simp))
    · exact .inr (.inl (by simp))
  · rcases hy with rfl | rfl | ⟨k, rfl⟩
    · exact .inl (by simp)
    · exact .inr (.inl (by simp))
    · exact .inr (.inr ⟨n + k, by push_cast; rfl⟩)

theorem IsInt.clip {x : EReal} (hx : IsInt x) : IsCode (min ((15 : ℝ) : EReal) (max 0 x)) := by
  rcases hx with rfl | rfl | ⟨n, rfl⟩
  · exact ⟨0, le_refl _, by norm_num, by simp⟩
  · exact ⟨15, by norm_num, le_refl _, by simp⟩
  · refine ⟨min 15 (max 0 n), by simp, by simp, ?_⟩
    rw [← EReal.coe_zero, ← EReal.coe_strictMono.monotone.map_max, ← EReal.coe_strictMono.monotone.map_min]
    push_cast
    rfl

/-- Every code is an integer from 0 to 15. -/
theorem isCode_qcode (f : Group) (c : Fin 128) : IsCode (qcode f c) := by
  unfold qcode
  rw [c15]
  exact ((isInt_rnd _).add (isInt_rnd _)).clip

theorem roundHalfEven_mem (r : ℝ) (h0 : 0 ≤ r) (h1 : r ≤ 15) : 0 ≤ Ideal.roundHalfEven r ∧ Ideal.roundHalfEven r ≤ 15 := by
  have hf0 : 0 ≤ ⌊r⌋ := Int.floor_nonneg.2 h0
  have hf1 : ⌊r⌋ ≤ 15 := by
    have := Int.floor_le r
    exact_mod_cast this.trans h1
  unfold Ideal.roundHalfEven
  dsimp only
  by_cases h15 : ⌊r⌋ = 15
  · have : r = 15 := le_antisymm h1 (by have := Int.floor_le r; rw [h15] at this; exact_mod_cast this)
    rw [if_pos (by rw [h15, this]; norm_num)]
    omega
  · split_ifs <;> omega

theorem qlo_le (f : Group) : qlo f ≤ 0 := min_le_left _ _
theorem le_qhi (f : Group) : 0 ≤ qhi f := le_max_left _ _

/-- The code that stands for zero is an integer from 0 to 15. -/
theorem isCode_qzp (f : Group) : IsCode (qzp f) := by
  have hlo := qlo_le f
  have hhi := le_qhi f
  unfold qzp qscale
  rw [c15]
  generalize qlo f = lo at *
  generalize qhi f = hi at *
  have zero : IsCode (rnd 0) := ⟨0, le_refl _, by norm_num, by
    show ((Ideal.roundHalfEven 0 : ℝ) : EReal) = _
    simp [Ideal.roundHalfEven]⟩
  by_cases he : hi = lo
  · have : lo = 0 := le_antisymm hlo (he ▸ hhi)
    subst this
    rw [if_pos he]
    have : Ideal.div (0 - 0) 1 = 0 := by simp [Ideal.div]
    rw [this]
    exact zero
  rw [if_neg he, Ideal.div_coe (by norm_num)]
  have top : ∀ x : EReal, Ideal.div x (⊤ * ((1 / 15 : ℝ) : EReal)) = 0 := by
    intro x
    rw [EReal.top_mul_coe_of_pos (by norm_num)]
    simp [Ideal.div]
  induction lo with
  | top => simp at hlo
  | bot =>
    have : hi - ⊥ = ⊤ := by
      rw [sub_eq_add_neg, EReal.neg_bot, EReal.add_top_of_ne_bot]
      rintro rfl; simp at hhi
    rw [this, top]
    exact zero
  | coe l =>
    induction hi with
    | bot => simp at hhi
    | top =>
      rw [EReal.top_sub_coe, top]
      exact zero
    | coe h =>
      have hl : l ≤ 0 := by exact_mod_cast hlo
      have hh : 0 ≤ h := by exact_mod_cast hhi
      have hne : h ≠ l := fun e => he (by rw [e])
      have hpos : 0 < h - l := sub_pos.2 (lt_of_le_of_ne (hl.trans hh) (Ne.symm hne))
      have e : Ideal.div (0 - (l : EReal)) (((h : EReal) - (l : EReal)) * ((1 / 15 : ℝ) : EReal))
          = ((-l * (1 / ((h - l) * (1 / 15))) : ℝ) : EReal) := by
        rw [← EReal.coe_sub, ← EReal.coe_mul, Ideal.div_coe (by positivity), zero_sub, ← EReal.coe_neg, ← EReal.coe_mul]
      rw [e]
      obtain ⟨h0, h1⟩ := roundHalfEven_mem (-l * (1 / ((h - l) * (1 / 15))))
        (mul_nonneg (by linarith) (by positivity)) (by
          rw [mul_one_div, div_le_iff₀ (by positivity)]
          linarith)
      exact ⟨_, h0, h1, rfl⟩

theorem codeInt (n : ℤ) (h0 : 0 ≤ n) (h1 : n ≤ 15) : Ideal.fptosi 32 ((n : ℝ) : EReal) = BitVec.ofInt 32 n := by
  unfold Ideal.fptosi
  congr 1
  have : (0 : ℝ) ≤ n := by exact_mod_cast h0
  rw [Ideal.toIntClamped_coe, if_pos this, Int.floor_intCast]
  omega

/-- Narrowed to a byte and widened again unsigned, an integer from 0 to 15 is itself. -/
theorem setWidth_code (n : ℤ) (h0 : 0 ≤ n) (h1 : n ≤ 15) :
    ((BitVec.ofInt 32 n).setWidth 8).setWidth 32 = BitVec.ofInt 32 n := by
  interval_cases n <;> rfl

theorem codeByte_int (n : ℤ) (h0 : 0 ≤ n) (h1 : n ≤ 15) : codeByte ((n : ℝ) : EReal) = BitVec.ofInt 8 n := by
  unfold codeByte
  rw [codeInt n h0 h1]
  interval_cases n <;> rfl

/-- The upper four bits of a code are clear. -/
theorem codeByte_high {x : EReal} (hx : IsCode x) (b : ℕ) (hb : 4 ≤ b) : (codeByte x).getLsbD b = false := by
  obtain ⟨n, h0, h1, rfl⟩ := hx
  rw [codeByte_int n h0 h1]
  by_cases h8 : b < 8
  · interval_cases n <;> interval_cases b <;> rfl
  · exact BitVec.getLsbD_of_ge _ _ (by omega)

/-- The difference of two codes taken in integers is their difference as reals. -/
theorem sub_code {x y : EReal} (hx : IsCode x) (hy : IsCode y) :
    (((((codeByte x).setWidth 32 - (codeByte y).setWidth 32).toInt : ℤ) : ℝ) : EReal) = x - y := by
  obtain ⟨n, h0, h1, rfl⟩ := hx
  obtain ⟨k, k0, k1, rfl⟩ := hy
  rw [codeByte_int n h0 h1, codeByte_int k k0 k1, ← EReal.coe_sub]
  congr 1
  have : (((BitVec.ofInt 8 n).setWidth 32 - (BitVec.ofInt 8 k).setWidth 32).toInt : ℤ) = n - k := by
    interval_cases n <;> interval_cases k <;> rfl
  rw [this]
  push_cast
  rfl

/-- Two codes joined as words and narrowed are the two joined as bytes. -/
theorem pack_code (x y : EReal) :
    (((codeByte x).setWidth 32 ||| (codeByte y).setWidth 32 <<< 4).setWidth 8) = pack x y := by
  unfold pack
  generalize codeByte x = a
  generalize codeByte y = b
  apply BitVec.eq_of_getLsbD_eq
  intro i hi
  simp only [BitVec.getLsbD_setWidth, BitVec.getLsbD_or, BitVec.getLsbD_shiftLeft]
  simp [hi, show i < 32 by omega, show i - 4 < 32 by omega]

end Cert.Proof
-- ==== Proof.Trip.lean ====
/- One trip of the quantising loop: what it stores is the quantised rows of the block it reads. -/
module

public import proofs.«01_k».proof.Proof.Gen.KernelIdeal.Loops
public import proofs.«01_k».proof.Proof.Quant
public import proofs.«01_k».proof.Proof.Bounds

@[expose] public section

set_option maxRecDepth 16384

noncomputable section

namespace Cert.Proof

open Idealize.ShloMosaic Cert.KernelIdeal Cert.KernelIdeal.Gen

abbrev Blk : Type := (⟨2, ![1024, 2560]⟩ : Shape).Idx → EReal

theorem row_eq (X : Blk) (v : Vec Ideal S256x128 .bf16) (off : Fin 2 → ℕ) (h) (hv : v = fun x => X ((Rect.unit (s := S1024x2560) off S256x128.size h).emb x))
    (k : ℕ) (hk : k < 4) (g : Fin 20) (h0 : off 0 = 256 * k) (h1 : off 1 = 128 * g.val) (r : Fin 256) :
    row v r = grp X ⟨256 * k + r.val, by have := r.isLt; omega⟩ g := by
  subst hv
  funext c
  show X _ = X _
  congr 1
  funext a
  match a with
  | 0 => exact Fin.ext (by show off 0 + 1 * r.val = 256 * k + r.val; omega)
  | 1 => exact Fin.ext (by show off 1 + 1 * c.val = 128 * g.val + c.val; omega)

/-- The rectangle of group `g` of trip `k`'s rows. -/
theorem piece_a (X : Blk) (k : Fin k0_t1_loop.trips) (off : Fin k0_t1_loop.trips → Fin 2 → ℕ)
    (ho : ∃ g : Fin 20, ∀ k, k.val < 4 ∧ off k 0 = 256 * k.val ∧ off k 1 = 128 * g.val) (h h')
    (v : Vec Ideal S256x128 .bf16) (hv : v = fun x => X ((Rect.unit (s := S1024x2560) (off k) S256x128.size h).emb x))
    (x : S256x128.Idx) :
    k0_pay11 (k0_pay10 (F := Ideal) v) x = tA X ((Rect.unit (s := S1024x2560) (off k) S256x128.size h').emb x) := by
  obtain ⟨g, ho⟩ := ho
  obtain ⟨hk, h0, h1⟩ := ho k
  obtain ⟨r, l, rfl⟩ : ∃ (r : Fin 256) (l : Fin 128), x = ix2 r l := ⟨x 0, x 1, eq_ix2 x⟩
  rw [pay11_at, row_eq X v (off k) h hv k.val hk g h0 h1 r]
  have e : (Rect.unit (s := S1024x2560) (off k) S256x128.size h').emb (ix2 r l)
      = (ix2 ⟨256 * k.val + r.val, by have := r.isLt; omega⟩ ⟨128 * g.val + l.val, by have := r.isLt; omega⟩ : S1024x2560.Idx) := by
    funext a
    match a with
    | 0 => exact Fin.ext (by show off k 0 + 1 * r.val = 256 * k.val + r.val; omega)
    | 1 => exact Fin.ext (by show off k 1 + 1 * l.val = 128 * g.val + l.val; omega)
  rw [e]
  exact (tA_at X _ g l _ rfl).symm

/-- The packed codes of two neighbouring groups. -/
theorem piece_c (X : Blk) (k : Fin k0_t1_loop.trips) (off off1 off2 : Fin k0_t1_loop.trips → Fin 2 → ℕ)
    (ho : ∃ g : Fin 10, ∀ k, k.val < 4 ∧ off k 0 = 256 * k.val ∧ off k 1 = 128 * g.val
      ∧ off1 k 0 = 256 * k.val ∧ off1 k 1 = 128 * (2 * g.val) ∧ off2 k 0 = 256 * k.val ∧ off2 k 1 = 128 * (2 * g.val + 1)) (h h1 h2)
    (v : Vec Ideal S256x128 .bf16) (hv : v = fun x => X ((Rect.unit (s := S1024x2560) (off1 k) S256x128.size h1).emb x))
    (w : Vec Ideal S256x128 .bf16) (hw : w = fun x => X ((Rect.unit (s := S1024x2560) (off2 k) S256x128.size h2).emb x))
    (x : S256x128.Idx) :
    k0_pay29 k0_pay23 k0_pay24 (k0_pay25 (k0_pay9 (F := Ideal) v)) (k0_pay26 (k0_pay9 (F := Ideal) w))
        (k0_pay27 (k0_pay9 (F := Ideal) w)) k0_pay28 x
      = tC X ((Rect.unit (s := S1024x1280) (off k) S256x128.size h).emb x) := by
  obtain ⟨g, ho⟩ := ho
  obtain ⟨hk, h00, h01, h10, h11, h20, h21⟩ := ho k
  obtain ⟨r, l, rfl⟩ : ∃ (r : Fin 256) (l : Fin 128), x = ix2 r l := ⟨x 0, x 1, eq_ix2 x⟩
  have hg := g.isLt
  have hl := l.isLt
  have hv9 : ∀ (v : Vec Ideal S256x128 .bf16) j b, 4 ≤ b → (codeByte (k0_pay9 (F := Ideal) v j)).getLsbD b = false := by
    intro v j b hb
    obtain ⟨r', l', rfl⟩ : ∃ (r : Fin 256) (l : Fin 128), j = ix2 r l := ⟨j 0, j 1, eq_ix2 j⟩
    rw [pay9_at]
    exact codeByte_high (isCode_qcode _ _) b hb
  rw [pay29_at _ _ (hv9 v) (hv9 w)]
  simp only [pay9_at]
  rw [row_eq X v (off1 k) h1 hv k.val hk ⟨2 * g.val, by omega⟩ h10 h11 r,
    row_eq X w (off2 k) h2 hw k.val hk ⟨2 * g.val + 1, by omega⟩ h20 h21 r]
  have e : (Rect.unit (s := S1024x1280) (off k) S256x128.size h).emb (ix2 r l)
      = (ix2 ⟨256 * k.val + r.val, by have := r.isLt; omega⟩ ⟨128 * g.val + l.val, by omega⟩ : S1024x1280.Idx) := by
    funext a
    match a with
    | 0 => exact Fin.ext (by show off k 0 + 1 * r.val = 256 * k.val + r.val; omega)
    | 1 => exact Fin.ext (by show off k 1 + 1 * l.val = 128 * g.val + l.val; omega)
  rw [e]
  by_cases hl' : l.val < 64
  · rw [if_pos hl', tC_at X _ ⟨2 * g.val, by omega⟩ ⟨l.val, hl'⟩ _ (by show 128 * g.val + l.val = 64 * (2 * g.val) + l.val; omega)]
    have e1 : 2 * l.val % 128 = 2 * l.val := by omega
    have e2 : (2 * l.val + 1) % 128 = 2 * l.val + 1 := by omega
    simp only [e1, e2]
  · rw [if_neg hl', tC_at X _ ⟨2 * g.val + 1, by omega⟩ ⟨l.val - 64, by omega⟩ _ (by show 128 * g.val + l.val = 64 * (2 * g.val + 1) + (l.val - 64); omega)]
    have e1 : 2 * l.val % 128 = 2 * (l.val - 64) := by omega
    have e2 : (2 * l.val + 1) % 128 = 2 * (l.val - 64) + 1 := by omega
    simp only [e1, e2]

section
variable (𝒱 : Variants) (c : Dev nD) (bd : Option 𝒱.V) (i : grid0.Coords)
  (arg2 : Memref sig .tc .vmem S1024x2560 .bf16) (harg2 : arg2.IsWhole) (arg3 : Memref sig .tc .vmem S1280x512 .i8) (harg3 : arg3.IsWhole)
  (arg4 : Memref sig .tc .vmem S20x512 .f32) (harg4 : arg4.IsWhole) (arg5 : Memref sig .tc .vmem S1024x512 .bf16) (harg5 : arg5.IsWhole)
  (arg6 : Memref sig .tc .vmem S1024x1280 .i8) (harg6 : arg6.IsWhole) (arg7 : Memref sig .tc .vmem S1024x20 .f32) (harg7 : arg7.IsWhole)
  (arg8 : Memref sig .tc .vmem S1024x20 .i8) (harg8 : arg8.IsWhole) (arg9 : Memref sig .tc .vmem S1024x2560 .bf16) (harg9 : arg9.IsWhole)
  (arg10 : Memref sig .tc .vmem S2560x512 .bf16) (harg10 : arg10.IsWhole) (k0_h1 : k0_cond1 i = 1#1)
  (X2 : BufTy.Contents (Elt Ideal) arg2.view.ty) (k : Fin k0_t1_loop.trips)

theorem trip_a : ∀ p ∈ (trip_k0_t1 (F := Ideal) 𝒱 c bd i arg2 harg2 arg3 harg3 arg4 harg4 arg5 harg5 arg6 harg6 arg7 harg7 arg8 harg8 arg9 harg9 arg10 harg10 k0_h1 X2 k).2.2.2.1,
    ∀ x, p.2 x = tA (arg2.view.read (Elt Ideal) X2) (p.1.emb x) := by
  unfold trip_k0_t1
  dsimp only
  simp only [List.forall_mem_cons]
  refine ⟨?_, ?_, ?_, ?_, ?_, ?_, ?_, ?_, ?_, ?_, ?_, ?_, ?_, ?_, ?_, ?_, ?_, ?_, ?_, ?_, fun p hp => absurd hp List.not_mem_nil⟩
  all_goals exact piece_a _ k _ (by decide +kernel) _ _ _ rfl

/-- The load of one group's rows. -/
abbrev ld (off : Fin 2 → ℕ) (h : ∀ a, off a + S256x128.size a ≤ S1024x2560.size a) : Vec Ideal S256x128 .bf16 :=
  View.readAt (Elt Ideal) arg2.view (Rect.unit (s := S1024x2560) off S256x128.size h).toLoadRect X2

theorem pair (off : Fin k0_t1_loop.trips → Fin 2 → ℕ) (off1 off2 : Fin k0_t1_loop.trips → Fin 2 → ℕ) (h h1 h2)
    (ho : ∃ g : Fin 10, ∀ k, k.val < 4 ∧ off k 0 = 256 * k.val ∧ off k 1 = 128 * g.val
      ∧ off1 k 0 = 256 * k.val ∧ off1 k 1 = 128 * (2 * g.val) ∧ off2 k 0 = 256 * k.val ∧ off2 k 1 = 128 * (2 * g.val + 1)) (x : S256x128.Idx) :
    k0_pay29 k0_pay23 k0_pay24 (k0_pay25 (k0_pay9 (ld arg2 X2 (off1 k) h1))) (k0_pay26 (k0_pay9 (ld arg2 X2 (off2 k) h2)))
        (k0_pay27 (k0_pay9 (ld arg2 X2 (off2 k) h2))) k0_pay28 x
      = tC (arg2.view.read (Elt Ideal) X2) ((Rect.unit (s := S1024x1280) (off k) S256x128.size h).emb x) :=
  piece_c _ k off off1 off2 ho h h1 h2 _ rfl _ rfl x

theorem trip_c : ∀ p ∈ (trip_k0_t1 (F := Ideal) 𝒱 c bd i arg2 harg2 arg3 harg3 arg4 harg4 arg5 harg5 arg6 harg6 arg7 harg7 arg8 harg8 arg9 harg9 arg10 harg10 k0_h1 X2 k).1,
    ∀ x, p.2 x = tC (arg2.view.read (Elt Ideal) X2) (p.1.emb x) := by
  unfold trip_k0_t1
  dsimp only
  simp only [List.forall_mem_cons]
  refine ⟨?_, ?_, ?_, ?_, ?_, ?_, ?_, ?_, ?_, ?_, fun p hp => absurd hp List.not_mem_nil⟩
  · exact pair arg2 X2 k k0_off30 k0_off28 k0_off29 (k0_off30_inb i k k0_h1) (k0_off28_inb i k k0_h1) (k0_off29_inb i k k0_h1) (by decide +kernel)
  · exact pair arg2 X2 k k0_off27 k0_off25 k0_off26 (k0_off27_inb i k k0_h1) (k0_off25_inb i k k0_h1) (k0_off26_inb i k k0_h1) (by decide +kernel)
  · exact pair arg2 X2 k k0_off24 k0_off22 k0_off23 (k0_off24_inb i k k0_h1) (k0_off22_inb i k k0_h1) (k0_off23_inb i k k0_h1) (by decide +kernel)
  · exact pair arg2 X2 k k0_off21 k0_off19 k0_off20 (k0_off21_inb i k k0_h1) (k0_off19_inb i k k0_h1) (k0_off20_inb i k k0_h1) (by decide +kernel)
  · exact pair arg2 X2 k k0_off18 k0_off16 k0_off17 (k0_off18_inb i k k0_h1) (k0_off16_inb i k k0_h1) (k0_off17_inb i k k0_h1) (by decide +kernel)
  · exact pair arg2 X2 k k0_off15 k0_off13 k0_off14 (k0_off15_inb i k k0_h1) (k0_off13_inb i k k0_h1) (k0_off14_inb i k k0_h1) (by decide +kernel)
  · exact pair arg2 X2 k k0_off12 k0_off10 k0_off11 (k0_off12_inb i k k0_h1) (k0_off10_inb i k k0_h1) (k0_off11_inb i k k0_h1) (by decide +kernel)
  · exact pair arg2 X2 k k0_off9 k0_off7 k0_off8 (k0_off9_inb i k k0_h1) (k0_off7_inb i k k0_h1) (k0_off8_inb i k k0_h1) (by decide +kernel)
  · exact pair arg2 X2 k k0_off6 k0_off4 k0_off5 (k0_off6_inb i k k0_h1) (k0_off4_inb i k k0_h1) (k0_off5_inb i k k0_h1) (by decide +kernel)
  · exact pair arg2 X2 k k0_off3 k0_off1 k0_off2 (k0_off3_inb i k k0_h1) (k0_off1_inb i k k0_h1) (k0_off2_inb i k k0_h1) (by decide +kernel)

/-- The groups' offsets. -/
def offs : Fin 20 → Fin k0_t1_loop.trips → Fin 2 → ℕ :=
  ![k0_off1, k0_off2, k0_off4, k0_off5, k0_off7, k0_off8, k0_off10, k0_off11, k0_off13, k0_off14,
    k0_off16, k0_off17, k0_off19, k0_off20, k0_off22, k0_off23, k0_off25, k0_off26, k0_off28, k0_off29]

theorem offs_eq : ∀ g k, k.val < 4 ∧ offs g k 0 = 256 * k.val ∧ offs g k 1 = 128 * g.val := by decide +kernel

theorem offs_inb (g : Fin 20) (k) : ∀ a, offs g k a + S256x128.size a ≤ S1024x2560.size a := by
  obtain ⟨hk, h0, h1⟩ := offs_eq g k
  have hg := g.isLt
  intro a
  match a with
  | 0 => show offs g k 0 + 256 ≤ 1024; omega
  | 1 => show offs g k 1 + 128 ≤ 2560; omega

/-- Columns laid side by side: column `g` placed where the lane is `g`, over what was there. -/
def nest (z : Vec Ideal S256x20 .f32) (s : Fin 20 → FVec Ideal S256x1 .f32) : (n : ℕ) → n ≤ 20 → FVec Ideal S256x20 .f32
  | 0, _ => z
  | n + 1, h => select (cmpi .eq (iota .tc S256x20 32 [1] iota_S256x20_d1_w32) (broadcast S256x20 (BitVec.ofNat 32 n)))
      (broadcastTo S256x20 (shapeCast S256x1 (s ⟨n, h⟩) shapeCasts_S256x1_S256x1) broadcasts_S256x1_S256x20) (nest z s n (by omega))

theorem nest_at (z) (s : Fin 20 → FVec Ideal S256x1 .f32) (n : ℕ) (h : n ≤ 20) (r : Fin 256) (l : Fin 20) (hl : l.val < n) :
    nest z s n h (ix2 r l) = s l (ix2 r 0) := by
  induction n with
  | zero => omega
  | succ n ih =>
    unfold nest
    pointwise
    have : Scalar.select (IntOp.cmpi .eq (BitVec.ofNat 32 l.val) (BitVec.ofNat 32 n)) (s ⟨n, h⟩ (ix2 r 0)) (nest z s n (by omega) (ix2 r l))
        = s l (ix2 r 0) := by
      by_cases e : l.val = n
      · subst e
        simp [Scalar.select, IntOp.cmpi]
      · rw [ih (by omega) (by omega)]
        have : (BitVec.ofNat 32 l.val == BitVec.ofNat 32 n) = false := by
          have := l.isLt
          simp only [beq_eq_false_iff_ne, ne_eq]
          intro hh
          have := congrArg BitVec.toNat hh
          simp only [BitVec.toNat_ofNat] at this
          omega
        simp [Scalar.select, IntOp.cmpi, this]
    exact this

theorem r120 : trip_k0_t1.sl.r_120 i arg2 k0_h1 X2 k
    = nest (k0_pay3 (F := Ideal)) (fun g => k0_pay7 (ld arg2 X2 (offs g k) (offs_inb g k))) 20 (le_refl _) := by
  rfl

theorem r121 : trip_k0_t1.sl.r_121 i arg2 k0_h1 X2 k
    = nest (k0_pay4 (F := Ideal)) (fun g => k0_pay8 (ld arg2 X2 (offs g k) (offs_inb g k))) 20 (le_refl _) := by
  rfl

theorem ld_row (g : Fin 20) (r : Fin 256) :
    row (ld arg2 X2 (offs g k) (offs_inb g k)) r
      = grp (arg2.view.read (Elt Ideal) X2 : Blk) ⟨256 * k.val + r.val, by have := r.isLt; have := (offs_eq 0 k).1; omega⟩ g :=
  row_eq _ _ (offs g k) (offs_inb g k) rfl k.val (offs_eq g k).1 g (offs_eq g k).2.1 (offs_eq g k).2.2 r

theorem emb31 (h) (r : Fin 256) (l : Fin 20) : (Rect.unit (s := S1024x20) (k0_off31 k) S256x20.size h).emb (ix2 r l)
      = (ix2 ⟨256 * k.val + r.val, by have := r.isLt; have := (offs_eq 0 k).1; omega⟩ l : S1024x20.Idx) := by
  have ho : ∀ k, k0_off31 k 0 = 256 * k.val ∧ k0_off31 k 1 = 0 := by decide +kernel
  obtain ⟨h0, h1⟩ := ho k
  funext a
  match a with
  | 0 => exact Fin.ext (by show k0_off31 k 0 + 1 * r.val = 256 * k.val + r.val; omega)
  | 1 => exact Fin.ext (by show k0_off31 k 1 + 1 * l.val = l.val; omega)

theorem trip_s : ∀ p ∈ (trip_k0_t1 (F := Ideal) 𝒱 c bd i arg2 harg2 arg3 harg3 arg4 harg4 arg5 harg5 arg6 harg6 arg7 harg7 arg8 harg8 arg9 harg9 arg10 harg10 k0_h1 X2 k).2.1,
    ∀ x, p.2 x = tS (arg2.view.read (Elt Ideal) X2) (p.1.emb x) := by
  unfold trip_k0_t1
  dsimp only
  simp only [List.forall_mem_cons]
  refine ⟨fun x => ?_, fun p hp => absurd hp List.not_mem_nil⟩
  obtain ⟨r, l, rfl⟩ : ∃ (r : Fin 256) (l : Fin 20), x = ix2 r l := ⟨x 0, x 1, eq_ix2 x⟩
  rw [r120, nest_at _ _ _ _ _ _ l.isLt, pay7_at, ld_row]
  exact (congrArg (tS (arg2.view.read (Elt Ideal) X2)) (emb31 k _ r l)).symm

theorem trip_z : ∀ p ∈ (trip_k0_t1 (F := Ideal) 𝒱 c bd i arg2 harg2 arg3 harg3 arg4 harg4 arg5 harg5 arg6 harg6 arg7 harg7 arg8 harg8 arg9 harg9 arg10 harg10 k0_h1 X2 k).2.2.1,
    ∀ x, p.2 x = tZ (arg2.view.read (Elt Ideal) X2) (p.1.emb x) := by
  unfold trip_k0_t1
  dsimp only
  simp only [List.forall_mem_cons]
  refine ⟨fun x => ?_, fun p hp => absurd hp List.not_mem_nil⟩
  obtain ⟨r, l, rfl⟩ : ∃ (r : Fin 256) (l : Fin 20), x = ix2 r l := ⟨x 0, x 1, eq_ix2 x⟩
  rw [r121]
  show codeByte (nest (k0_pay4 (F := Ideal)) (fun g => k0_pay8 (ld arg2 X2 (offs g k) (offs_inb g k))) 20 (le_refl _) (ix2 r l)) = _
  rw [nest_at _ _ _ _ _ _ l.isLt, pay8_at, ld_row]
  exact (congrArg (tZ (arg2.view.read (Elt Ideal) X2)) (emb31 k _ r l)).symm

end
end Cert.Proof
-- ==== Proof.Loop.lean ====
/- The quantising loop whole: its four trips leave the quantised block in the four buffers they store to. -/
module

public import proofs.«01_k».proof.Proof.Trip
public import Idealize.ShloMosaic.Lib.Writes

@[expose] public section

set_option maxRecDepth 16384

noncomputable section

namespace Cert.Proof

open Idealize.ShloMosaic Cert.KernelIdeal Cert.KernelIdeal.Gen

variable (𝒱 : Variants) (c : Dev nD) (bd : Option 𝒱.V) (i : grid0.Coords)
  (arg2 : Memref sig .tc .vmem S1024x2560 .bf16) (harg2 : arg2.IsWhole) (arg3 : Memref sig .tc .vmem S1280x512 .i8) (harg3 : arg3.IsWhole)
  (arg4 : Memref sig .tc .vmem S20x512 .f32) (harg4 : arg4.IsWhole) (arg5 : Memref sig .tc .vmem S1024x512 .bf16) (harg5 : arg5.IsWhole)
  (arg6 : Memref sig .tc .vmem S1024x1280 .i8) (harg6 : arg6.IsWhole) (arg7 : Memref sig .tc .vmem S1024x20 .f32) (harg7 : arg7.IsWhole)
  (arg8 : Memref sig .tc .vmem S1024x20 .i8) (harg8 : arg8.IsWhole) (arg9 : Memref sig .tc .vmem S1024x2560 .bf16) (harg9 : arg9.IsWhole)
  (arg10 : Memref sig .tc .vmem S2560x512 .bf16) (harg10 : arg10.IsWhole) (k0_h1 : k0_cond1 i = 1#1)
  (X2 : BufTy.Contents (Elt Ideal) arg2.view.ty)

/-- The offsets of the packed pairs of groups. -/
def offc : Fin 10 → Fin k0_t1_loop.trips → Fin 2 → ℕ :=
  ![k0_off3, k0_off6, k0_off9, k0_off12, k0_off15, k0_off18, k0_off21, k0_off24, k0_off27, k0_off30]

theorem offc_eq : ∀ g k, k.val < 4 ∧ offc g k 0 = 256 * k.val ∧ offc g k 1 = 128 * g.val := by decide +kernel

theorem offc_inb (g : Fin 10) (k) : ∀ a, offc g k a + S256x128.size a ≤ S1024x1280.size a := by
  obtain ⟨hk, h0, h1⟩ := offc_eq g k
  have hg := g.isLt
  intro a
  match a with
  | 0 => show offc g k 0 + 256 ≤ 1024; omega
  | 1 => show offc g k 1 + 128 ≤ 1280; omega

theorem off31_eq : ∀ k, k.val < 4 ∧ k0_off31 k 0 = 256 * k.val ∧ k0_off31 k 1 = 0 := by decide +kernel

theorem off31_inb (k) : ∀ a, k0_off31 k a + S256x20.size a ≤ S1024x20.size a := by
  obtain ⟨hk, h0, h1⟩ := off31_eq k
  intro a
  match a with
  | 0 => show k0_off31 k 0 + 256 ≤ 1024; omega
  | 1 => show k0_off31 k 1 + 20 ≤ 20; omega

theorem rects_a (k) : (trip_k0_t1 (F := Ideal) 𝒱 c bd i arg2 harg2 arg3 harg3 arg4 harg4 arg5 harg5 arg6 harg6 arg7 harg7 arg8 harg8 arg9 harg9 arg10 harg10 k0_h1 X2 k).2.2.2.1.map (fun p => p.1)
    = ([19, 18, 17, 16, 15, 14, 13, 12, 11, 10, 9, 8, 7, 6, 5, 4, 3, 2, 1, 0] : List (Fin 20)).map fun g =>
        Rect.unit (s := S1024x2560) (offs g k) S256x128.size (offs_inb g k) := by
  unfold trip_k0_t1
  rfl

theorem rects_c (k) : (trip_k0_t1 (F := Ideal) 𝒱 c bd i arg2 harg2 arg3 harg3 arg4 harg4 arg5 harg5 arg6 harg6 arg7 harg7 arg8 harg8 arg9 harg9 arg10 harg10 k0_h1 X2 k).1.map (fun p => p.1)
    = ([9, 8, 7, 6, 5, 4, 3, 2, 1, 0] : List (Fin 10)).map fun g =>
        Rect.unit (s := S1024x1280) (offc g k) S256x128.size (offc_inb g k) := by
  unfold trip_k0_t1
  rfl

theorem rects_s (k) : (trip_k0_t1 (F := Ideal) 𝒱 c bd i arg2 harg2 arg3 harg3 arg4 harg4 arg5 harg5 arg6 harg6 arg7 harg7 arg8 harg8 arg9 harg9 arg10 harg10 k0_h1 X2 k).2.1.map (fun p => p.1)
    = [Rect.unit (s := S1024x20) (k0_off31 k) S256x20.size (off31_inb k)] := by
  unfold trip_k0_t1
  rfl

theorem rects_z (k) : (trip_k0_t1 (F := Ideal) 𝒱 c bd i arg2 harg2 arg3 harg3 arg4 harg4 arg5 harg5 arg6 harg6 arg7 harg7 arg8 harg8 arg9 harg9 arg10 harg10 k0_h1 X2 k).2.2.1.map (fun p => p.1)
    = [Rect.unit (s := S1024x20) (k0_off31 k) S256x20.size (off31_inb k)] := by
  unfold trip_k0_t1
  rfl

/-- Every piece listed after `n` trips is a piece of one of them. -/
theorem pb_mem (n : ℕ) (hn : n ≤ k0_t1_loop.trips) :
    (∀ p, p ∈ (pb_k0_t1 (F := Ideal) 𝒱 c bd i arg2 harg2 arg3 harg3 arg4 harg4 arg5 harg5 arg6 harg6 arg7 harg7 arg8 harg8 arg9 harg9 arg10 harg10 k0_h1 X2 n).1 ↔ ∃ k : Fin k0_t1_loop.trips, k.val < n ∧ p ∈ (trip_k0_t1 (F := Ideal) 𝒱 c bd i arg2 harg2 arg3 harg3 arg4 harg4 arg5 harg5 arg6 harg6 arg7 harg7 arg8 harg8 arg9 harg9 arg10 harg10 k0_h1 X2 k).1)
    ∧ (∀ p, p ∈ (pb_k0_t1 (F := Ideal) 𝒱 c bd i arg2 harg2 arg3 harg3 arg4 harg4 arg5 harg5 arg6 harg6 arg7 harg7 arg8 harg8 arg9 harg9 arg10 harg10 k0_h1 X2 n).2.1 ↔ ∃ k : Fin k0_t1_loop.trips, k.val < n ∧ p ∈ (trip_k0_t1 (F := Ideal) 𝒱 c bd i arg2 harg2 arg3 harg3 arg4 harg4 arg5 harg5 arg6 harg6 arg7 harg7 arg8 harg8 arg9 harg9 arg10 harg10 k0_h1 X2 k).2.1)
    ∧ (∀ p, p ∈ (pb_k0_t1 (F := Ideal) 𝒱 c bd i arg2 harg2 arg3 harg3 arg4 harg4 arg5 harg5 arg6 harg6 arg7 harg7 arg8 harg8 arg9 harg9 arg10 harg10 k0_h1 X2 n).2.2.1 ↔ ∃ k : Fin k0_t1_loop.trips, k.val < n ∧ p ∈ (trip_k0_t1 (F := Ideal) 𝒱 c bd i arg2 harg2 arg3 harg3 arg4 harg4 arg5 harg5 arg6 harg6 arg7 harg7 arg8 harg8 arg9 harg9 arg10 harg10 k0_h1 X2 k).2.2.1)
    ∧ (∀ p, p ∈ (pb_k0_t1 (F := Ideal) 𝒱 c bd i arg2 harg2 arg3 harg3 arg4 harg4 arg5 harg5 arg6 harg6 arg7 harg7 arg8 harg8 arg9 harg9 arg10 harg10 k0_h1 X2 n).2.2.2 ↔ ∃ k : Fin k0_t1_loop.trips, k.val < n ∧ p ∈ (trip_k0_t1 (F := Ideal) 𝒱 c bd i arg2 harg2 arg3 harg3 arg4 harg4 arg5 harg5 arg6 harg6 arg7 harg7 arg8 harg8 arg9 harg9 arg10 harg10 k0_h1 X2 k).2.2.2.1) := by
  have step : ∀ {α : Type} (T : Fin k0_t1_loop.trips → List α) (L : List α) (m : ℕ) (hm : m < k0_t1_loop.trips),
      (∀ p, p ∈ L ↔ ∃ k : Fin k0_t1_loop.trips, k.val < m ∧ p ∈ T k) →
      ∀ p, p ∈ T ⟨m, hm⟩ ++ L ↔ ∃ k : Fin k0_t1_loop.trips, k.val < m + 1 ∧ p ∈ T k := by
    intro α T L m hm h p
    rw [List.mem_append, h]
    constructor
    · rintro (hp | ⟨k, hk, hp⟩)
      · exact ⟨⟨m, hm⟩, Nat.lt_succ_self m, hp⟩
      · exact ⟨k, Nat.lt_succ_of_lt hk, hp⟩
    · rintro ⟨k, hk, hp⟩
      rcases Nat.lt_succ_iff_lt_or_eq.1 hk with h' | h'
      · exact .inr ⟨k, h', hp⟩
      · exact .inl (by have : k = ⟨m, hm⟩ := Fin.ext h'
                       rw [← this]; exact hp)
  induction n with
  | zero =>
    refine ⟨fun p => ?_, fun p => ?_, fun p => ?_, fun p => ?_⟩ <;>
      exact ⟨fun h => absurd h List.not_mem_nil, fun ⟨_, h, _⟩ => absurd h (Nat.not_lt_zero _)⟩
  | succ m ih =>
    obtain ⟨h1, h2, h3, h4⟩ := ih (Nat.le_of_succ_le hn)
    have e := pb_k0_t1_succ (F := Ideal) 𝒱 c bd i arg2 harg2 arg3 harg3 arg4 harg4 arg5 harg5 arg6 harg6 arg7 harg7 arg8 harg8 arg9 harg9 arg10 harg10 k0_h1 X2 ⟨m, hn⟩
    rw [show (⟨m, hn⟩ : Fin k0_t1_loop.trips).val + 1 = m + 1 from rfl] at e
    rw [e]
    exact ⟨step (fun k => (trip_k0_t1 (F := Ideal) 𝒱 c bd i arg2 harg2 arg3 harg3 arg4 harg4 arg5 harg5 arg6 harg6 arg7 harg7 arg8 harg8 arg9 harg9 arg10 harg10 k0_h1 X2 k).1) _ m hn h1, step (fun k => (trip_k0_t1 (F := Ideal) 𝒱 c bd i arg2 harg2 arg3 harg3 arg4 harg4 arg5 harg5 arg6 harg6 arg7 harg7 arg8 harg8 arg9 harg9 arg10 harg10 k0_h1 X2 k).2.1) _ m hn h2, step (fun k => (trip_k0_t1 (F := Ideal) 𝒱 c bd i arg2 harg2 arg3 harg3 arg4 harg4 arg5 harg5 arg6 harg6 arg7 harg7 arg8 harg8 arg9 harg9 arg10 harg10 k0_h1 X2 k).2.2.1) _ m hn h3,
      step (fun k => (trip_k0_t1 (F := Ideal) 𝒱 c bd i arg2 harg2 arg3 harg3 arg4 harg4 arg5 harg5 arg6 harg6 arg7 harg7 arg8 harg8 arg9 harg9 arg10 harg10 k0_h1 X2 k).2.2.2.1) _ m hn h4⟩

theorem trips_eq : k0_t1_loop.trips = 4 := by decide +kernel

/-- A buffer written by pieces, each of which agrees with `G`, at trips whose rectangles are listed and cover. -/
theorem whole_of_trips {s : Shape} {e : EltTy} (v : View sig .tc .vmem s e) (f : v.ty.Contents (Elt Ideal)) (G : s.Idx → Elt Ideal e)
    (T : Fin k0_t1_loop.trips → List (View.Piece (Elt Ideal) s e)) (L : List (View.Piece (Elt Ideal) s e))
    (hL : ∀ p, p ∈ L ↔ ∃ k : Fin k0_t1_loop.trips, k.val < k0_t1_loop.trips ∧ p ∈ T k)
    (hG : ∀ k, ∀ p ∈ T k, ∀ x, p.2 x = G (p.1.emb x))
    (hc : ∀ y : s.Idx, ∃ k, ∃ R ∈ (T k).map (fun p => p.1), y ∈ R.set) :
    v.read (Elt Ideal) (v.writes (Elt Ideal) f L) = G := by
  funext y
  refine View.read_writes_apply_of_pieces v f G L (fun p hp => ?_) y ?_
  · obtain ⟨k, -, hk⟩ := (hL p).1 hp
    exact hG k p hk
  · obtain ⟨k, R, hR, hy⟩ := hc y
    obtain ⟨p, hp, rfl⟩ := List.mem_map.1 hR
    exact ⟨p, (hL p).2 ⟨k, k.isLt, hp⟩, hy⟩

theorem loop_a (f9) : arg9.view.read (Elt Ideal) (arg9.view.writes (Elt Ideal) f9 (pb_k0_t1 (F := Ideal) 𝒱 c bd i arg2 harg2 arg3 harg3 arg4 harg4 arg5 harg5 arg6 harg6 arg7 harg7 arg8 harg8 arg9 harg9 arg10 harg10 k0_h1 X2 k0_t1_loop.trips).2.2.2)
    = tA (arg2.view.read (Elt Ideal) X2) := by
  refine whole_of_trips _ _ _ (fun k => (trip_k0_t1 (F := Ideal) 𝒱 c bd i arg2 harg2 arg3 harg3 arg4 harg4 arg5 harg5 arg6 harg6 arg7 harg7 arg8 harg8 arg9 harg9 arg10 harg10 k0_h1 X2 k).2.2.2.1) _ (pb_mem 𝒱 c bd i arg2 harg2 arg3 harg3 arg4 harg4 arg5 harg5 arg6 harg6 arg7 harg7 arg8 harg8 arg9 harg9 arg10 harg10 k0_h1 X2 _ (le_refl _)).2.2.2 (fun k => trip_a 𝒱 c bd i arg2 harg2 arg3 harg3 arg4 harg4 arg5 harg5 arg6 harg6 arg7 harg7 arg8 harg8 arg9 harg9 arg10 harg10 k0_h1 X2 k) fun y => ?_
  have y0 : (y 0).val < 1024 := (y 0).isLt
  have y1 : (y 1).val < 2560 := (y 1).isLt
  let g : Fin 20 := ⟨(y 1).val / 128, by omega⟩
  let k : Fin k0_t1_loop.trips := ⟨(y 0).val / 256, by rw [trips_eq]; omega⟩
  refine ⟨k, _, by
    dsimp only
    rw [rects_a 𝒱 c bd i arg2 harg2 arg3 harg3 arg4 harg4 arg5 harg5 arg6 harg6 arg7 harg7 arg8 harg8 arg9 harg9 arg10 harg10 k0_h1 X2]
    exact List.mem_map.2 ⟨g, (by decide : ∀ g : Fin 20, g ∈ ([19, 18, 17, 16, 15, 14, 13, 12, 11, 10, 9, 8, 7, 6, 5, 4, 3, 2, 1, 0] : List (Fin 20))) g, rfl⟩, Rect.mem_set_unit.2 fun a => ?_⟩
  obtain ⟨hk, h0, h1⟩ := offs_eq g k
  match a with
  | 0 => show offs g k 0 ≤ (y 0).val ∧ (y 0).val < offs g k 0 + 256; simp only [h0, k]; omega
  | 1 => show offs g k 1 ≤ (y 1).val ∧ (y 1).val < offs g k 1 + 128; simp only [h1, g]; omega

theorem loop_c (f6) : arg6.view.read (Elt Ideal) (arg6.view.writes (Elt Ideal) f6 (pb_k0_t1 (F := Ideal) 𝒱 c bd i arg2 harg2 arg3 harg3 arg4 harg4 arg5 harg5 arg6 harg6 arg7 harg7 arg8 harg8 arg9 harg9 arg10 harg10 k0_h1 X2 k0_t1_loop.trips).1)
    = tC (arg2.view.read (Elt Ideal) X2) := by
  refine whole_of_trips _ _ _ (fun k => (trip_k0_t1 (F := Ideal) 𝒱 c bd i arg2 harg2 arg3 harg3 arg4 harg4 arg5 harg5 arg6 harg6 arg7 harg7 arg8 harg8 arg9 harg9 arg10 harg10 k0_h1 X2 k).1) _ (pb_mem 𝒱 c bd i arg2 harg2 arg3 harg3 arg4 harg4 arg5 harg5 arg6 harg6 arg7 harg7 arg8 harg8 arg9 harg9 arg10 harg10 k0_h1 X2 _ (le_refl _)).1 (fun k => trip_c 𝒱 c bd i arg2 harg2 arg3 harg3 arg4 harg4 arg5 harg5 arg6 harg6 arg7 harg7 arg8 harg8 arg9 harg9 arg10 harg10 k0_h1 X2 k) fun y => ?_
  have y0 : (y 0).val < 1024 := (y 0).isLt
  have y1 : (y 1).val < 1280 := (y 1).isLt
  let g : Fin 10 := ⟨(y 1).val / 128, by omega⟩
  let k : Fin k0_t1_loop.trips := ⟨(y 0).val / 256, by rw [trips_eq]; omega⟩
  refine ⟨k, _, by
    dsimp only
    rw [rects_c 𝒱 c bd i arg2 harg2 arg3 harg3 arg4 harg4 arg5 harg5 arg6 harg6 arg7 harg7 arg8 harg8 arg9 harg9 arg10 harg10 k0_h1 X2]
    exact List.mem_map.2 ⟨g, (by decide : ∀ g : Fin 10, g ∈ ([9, 8, 7, 6, 5, 4, 3, 2, 1, 0] : List (Fin 10))) g, rfl⟩, Rect.mem_set_unit.2 fun a => ?_⟩
  obtain ⟨hk, h0, h1⟩ := offc_eq g k
  match a with
  | 0 => show offc g k 0 ≤ (y 0).val ∧ (y 0).val < offc g k 0 + 256; simp only [h0, k]; omega
  | 1 => show offc g k 1 ≤ (y 1).val ∧ (y 1).val < offc g k 1 + 128; simp only [h1, g]; omega

theorem cover20 (y : S1024x20.Idx) : ∃ k, y ∈ (Rect.unit (s := S1024x20) (k0_off31 k) S256x20.size (off31_inb k)).set := by
  have y0 : (y 0).val < 1024 := (y 0).isLt
  have y1 : (y 1).val < 20 := (y 1).isLt
  let k : Fin k0_t1_loop.trips := ⟨(y 0).val / 256, by rw [trips_eq]; omega⟩
  refine ⟨k, Rect.mem_set_unit.2 fun a => ?_⟩
  obtain ⟨hk, h0, h1⟩ := off31_eq k
  match a with
  | 0 => show k0_off31 k 0 ≤ (y 0).val ∧ (y 0).val < k0_off31 k 0 + 256; simp only [h0, k]; omega
  | 1 => show k0_off31 k 1 ≤ (y 1).val ∧ (y 1).val < k0_off31 k 1 + 20; simp only [h1]; omega

theorem loop_s (f7) : arg7.view.read (Elt Ideal) (arg7.view.writes (Elt Ideal) f7 (pb_k0_t1 (F := Ideal) 𝒱 c bd i arg2 harg2 arg3 harg3 arg4 harg4 arg5 harg5 arg6 harg6 arg7 harg7 arg8 harg8 arg9 harg9 arg10 harg10 k0_h1 X2 k0_t1_loop.trips).2.1)
    = tS (arg2.view.read (Elt Ideal) X2) := by
  refine whole_of_trips _ _ _ (fun k => (trip_k0_t1 (F := Ideal) 𝒱 c bd i arg2 harg2 arg3 harg3 arg4 harg4 arg5 harg5 arg6 harg6 arg7 harg7 arg8 harg8 arg9 harg9 arg10 harg10 k0_h1 X2 k).2.1) _ (pb_mem 𝒱 c bd i arg2 harg2 arg3 harg3 arg4 harg4 arg5 harg5 arg6 harg6 arg7 harg7 arg8 harg8 arg9 harg9 arg10 harg10 k0_h1 X2 _ (le_refl _)).2.1 (fun k => trip_s 𝒱 c bd i arg2 harg2 arg3 harg3 arg4 harg4 arg5 harg5 arg6 harg6 arg7 harg7 arg8 harg8 arg9 harg9 arg10 harg10 k0_h1 X2 k) fun y => ?_
  obtain ⟨k, hk⟩ := cover20 y
  refine ⟨k, _, by
    dsimp only
    rw [rects_s 𝒱 c bd i arg2 harg2 arg3 harg3 arg4 harg4 arg5 harg5 arg6 harg6 arg7 harg7 arg8 harg8 arg9 harg9 arg10 harg10 k0_h1 X2]
    exact List.mem_singleton.2 rfl, hk⟩

theorem loop_z (f8) : arg8.view.read (Elt Ideal) (arg8.view.writes (Elt Ideal) f8 (pb_k0_t1 (F := Ideal) 𝒱 c bd i arg2 harg2 arg3 harg3 arg4 harg4 arg5 harg5 arg6 harg6 arg7 harg7 arg8 harg8 arg9 harg9 arg10 harg10 k0_h1 X2 k0_t1_loop.trips).2.2.1)
    = tZ (arg2.view.read (Elt Ideal) X2) := by
  refine whole_of_trips _ _ _ (fun k => (trip_k0_t1 (F := Ideal) 𝒱 c bd i arg2 harg2 arg3 harg3 arg4 harg4 arg5 harg5 arg6 harg6 arg7 harg7 arg8 harg8 arg9 harg9 arg10 harg10 k0_h1 X2 k).2.2.1) _ (pb_mem 𝒱 c bd i arg2 harg2 arg3 harg3 arg4 harg4 arg5 harg5 arg6 harg6 arg7 harg7 arg8 harg8 arg9 harg9 arg10 harg10 k0_h1 X2 _ (le_refl _)).2.2.1 (fun k => trip_z 𝒱 c bd i arg2 harg2 arg3 harg3 arg4 harg4 arg5 harg5 arg6 harg6 arg7 harg7 arg8 harg8 arg9 harg9 arg10 harg10 k0_h1 X2 k) fun y => ?_
  obtain ⟨k, hk⟩ := cover20 y
  refine ⟨k, _, by
    dsimp only
    rw [rects_z 𝒱 c bd i arg2 harg2 arg3 harg3 arg4 harg4 arg5 harg5 arg6 harg6 arg7 harg7 arg8 harg8 arg9 harg9 arg10 harg10 k0_h1 X2]
    exact List.mem_singleton.2 rfl, hk⟩

end Cert.Proof
-- ==== Proof.Weight.lean ====
/- The weight block: each group's 64 rows of packed bytes become 128 rows of weights. -/
module

public import proofs.«01_k».proof.Proof.Gen.KernelIdeal.Skeleton
public import proofs.«01_k».proof.Proof.Rows
public import Idealize.ShloMosaic.Lib.Pointwise
public import Idealize.ShloMosaic.Lib.BitcastPair
public import Idealize.ShloMosaic.Lib.Writes

@[expose] public section

set_option maxRecDepth 16384

noncomputable section

namespace Cert.Proof

open Idealize.ShloMosaic Cert.KernelIdeal Cert.KernelIdeal.Gen

/-- A four-bit two's-complement number. -/
def nib (b : BitVec 4) : EReal := ((b.toInt : ℝ) : EReal)

/-- The weights packed in `P` with the scales `S`: byte row `k` holds rows `2 k` (low half) and `2 k + 1` (high half). -/
def tW {n : ℕ} (P : (⟨2, ![1280, n]⟩ : Shape).Idx → BitVec 8) (S : (⟨2, ![20, n]⟩ : Shape).Idx → EReal) :
    (⟨2, ![2560, n]⟩ : Shape).Idx → EReal := fun j =>
  nib ((P (ix2 ⟨(j 0).val / 2, by have : (j 0).val < 2560 := (j 0).isLt; omega⟩ (j 1))).extractLsb' (4 * ((j 0).val % 2)) 4)
    * S (ix2 ⟨(j 0).val / 128, by have : (j 0).val < 2560 := (j 0).isLt; omega⟩ (j 1))

theorem spread (p : BitVec 8) (q : Fin 2) :
    (((p.setWidth 32 ||| p.setWidth 32 <<< 12) &&& 983055#32) ^^^ 1124614920#32).extractLsb' (16 * q.val) 16
      = (p.extractLsb' (4 * q.val) 4).setWidth 16 ^^^ 0x4308#16 := by
  revert p q
  decide +kernel

theorem nib_bits (b : BitVec 4) :
    Ideal.ofBits FTy.bf16 (b.setWidth 16 ^^^ 0x4308#16) - Ideal.ofBits FTy.bf16 0x4308#16 = nib b := by
  have e : Ideal.ofBits FTy.bf16 0x4308#16 = ((136 : ℝ) : EReal) := by
    simp [Ideal.ofBits, Ideal.ieee]
  rw [e]
  obtain ⟨⟨n, hn⟩⟩ := b
  have h : n < 16 := hn
  unfold nib
  interval_cases n <;>
  · simp [Ideal.ofBits, Ideal.ieee, BitVec.toInt]
    try rw [← EReal.coe_mul]
    try rw [← EReal.coe_sub]
    try norm_num

theorem pay228_at (v : Vec Ideal S64x512 .i8) (r : Fin 128) (l : Fin 512) :
    k0_pay228 (F := Ideal) v (ix2 r l)
      = nib ((v (ix2 ⟨r.val / 2, by have := r.isLt; omega⟩ l)).extractLsb' (4 * (r.val % 2)) 4) := by
  pointwise [k0_pay228]
  have hr := r.isLt
  have hrow : S128x512.row (ix2 r l : S128x512.Idx) = r.val := rfl
  rw [bitcast_32_16]
  have hi : ∀ h, bitcasts_S64x512_w32_S128x512_w16.srcIdx (ix2 r l) (S128x512.row (ix2 r l : S128x512.Idx) / 2) h
      = (ix2 ⟨r.val / 2, by omega⟩ l : S64x512.Idx) := by
    intro h
    funext a
    match a with
    | 0 => exact Fin.ext (by rw [Shape.Bitcasts.srcIdx_row _ _ _ _ _ rfl]; rfl)
    | 1 => exact Fin.ext (by rw [Shape.Bitcasts.srcIdx_other _ _ _ _ _ (by decide)]; rfl)
  rw [hi, hrow]
  refine Eq.trans ?_ (nib_bits _)
  exact congrArg (fun b => Ideal.ofBits FTy.bf16 b - Ideal.ofBits FTy.bf16 0x4308#16)
    (spread (v (ix2 ⟨r.val / 2, by omega⟩ l)) ⟨r.val % 2, by omega⟩)

theorem pay227_at (v : Vec Ideal S64x512 .i8) (w : Vec Ideal S1x512 .f32) (r : Fin 128) (l : Fin 512) :
    k0_pay227 (F := Ideal) v w (ix2 r l)
      = nib ((v (ix2 ⟨r.val / 2, by have := r.isLt; omega⟩ l)).extractLsb' (4 * (r.val % 2)) 4) * w (ix2 0 l) := by
  show k0_pay230 (F := Ideal) (k0_pay228 v) (k0_pay229 w) (ix2 r l) = _
  pointwise [k0_pay230, pay228_at, k0_pay229]

/-! ## The twenty stores -/

theorem woff_inb (g : Fin 20) : ∀ a, (![128 * g.val, 0] : Fin 2 → ℕ) a + S128x512.size a ≤ S2560x512.size a := by
  revert g; decide
theorem poff_inb (g : Fin 20) : ∀ a, (![64 * g.val, 0] : Fin 2 → ℕ) a + S64x512.size a ≤ S1280x512.size a := by
  revert g; decide
theorem soff_inb (g : Fin 20) : ∀ a, (![g.val, 0] : Fin 2 → ℕ) a + S1x512.size a ≤ S20x512.size a := by
  revert g; decide

variable (arg3 : Memref sig .tc .vmem S1280x512 .i8) (arg4 : Memref sig .tc .vmem S20x512 .f32)
  (f3 : arg3.view.ty.Contents (Elt Ideal)) (f4 : arg4.view.ty.Contents (Elt Ideal))

/-- What the store for group `g` writes, and where. -/
def wpiece (g : Fin 20) : View.Piece (Elt Ideal) S2560x512 .bf16 :=
  ⟨Rect.unit (s := S2560x512) ![128 * g.val, 0] S128x512.size (woff_inb g),
    k0_pay227 (View.readAt (Elt Ideal) arg3.view (Rect.unit (s := S1280x512) ![64 * g.val, 0] S64x512.size (poff_inb g)).toLoadRect f3)
      (View.readAt (Elt Ideal) arg4.view (Rect.unit (s := S20x512) ![g.val, 0] S1x512.size (soff_inb g)).toLoadRect f4)⟩

/-- The twenty stores, the last first. -/
def wpieces : List (View.Piece (Elt Ideal) S2560x512 .bf16) :=
  ([19, 18, 17, 16, 15, 14, 13, 12, 11, 10, 9, 8, 7, 6, 5, 4, 3, 2, 1, 0] : List (Fin 20)).map (wpiece arg3 arg4 f3 f4)

theorem wpiece_at (g : Fin 20) (x) : (wpiece arg3 arg4 f3 f4 g).2 x
    = tW (arg3.view.read (Elt Ideal) f3) (arg4.view.read (Elt Ideal) f4) ((wpiece arg3 arg4 f3 f4 g).1.emb x) := by
  obtain ⟨r, l, rfl⟩ : ∃ (r : Fin 128) (l : Fin 512), x = ix2 r l := ⟨x 0, x 1, eq_ix2 x⟩
  have hr := r.isLt
  have hg := g.isLt
  refine (pay227_at _ _ r l).trans ?_
  have e : (wpiece arg3 arg4 f3 f4 g).1.emb (ix2 r l) = (ix2 ⟨128 * g.val + r.val, by omega⟩ l : S2560x512.Idx) := by
    funext a
    match a with
    | 0 => exact Fin.ext (by show 128 * g.val + 1 * r.val = 128 * g.val + r.val; omega)
    | 1 => exact Fin.ext (by show 0 + 1 * l.val = l.val; omega)
  rw [e]
  unfold tW
  congr 1
  · have e1 : (128 * g.val + r.val) % 2 = r.val % 2 := by omega
    show nib (BitVec.extractLsb' (4 * (r.val % 2)) 4 (arg3.view.read (Elt Ideal) f3 _)) = nib (BitVec.extractLsb' (4 * ((128 * g.val + r.val) % 2)) 4 (arg3.view.read (Elt Ideal) f3 _))
    rw [e1]
    congr 3
    funext a
    match a with
    | 0 => exact Fin.ext (by show 64 * g.val + 1 * (r.val / 2) = (128 * g.val + r.val) / 2; omega)
    | 1 => exact Fin.ext (by show 0 + 1 * l.val = l.val; omega)
  · show arg4.view.read (Elt Ideal) f4 _ = arg4.view.read (Elt Ideal) f4 _
    congr 1
    funext a
    match a with
    | 0 => exact Fin.ext (by show g.val + 1 * 0 = (128 * g.val + r.val) / 128; omega)
    | 1 => exact Fin.ext (by show 0 + 1 * l.val = l.val; omega)

theorem weights_read (arg10 : Memref sig .tc .vmem S2560x512 .bf16) (f) :
    arg10.view.read (Elt Ideal) (arg10.view.writes (Elt Ideal) f (wpieces arg3 arg4 f3 f4))
      = tW (arg3.view.read (Elt Ideal) f3) (arg4.view.read (Elt Ideal) f4) := by
  funext y
  have y0 : (y 0).val < 2560 := (y 0).isLt
  have y1 : (y 1).val < 512 := (y 1).isLt
  let g : Fin 20 := ⟨(y 0).val / 128, by omega⟩
  have hg : ∀ g : Fin 20, g ∈ ([19, 18, 17, 16, 15, 14, 13, 12, 11, 10, 9, 8, 7, 6, 5, 4, 3, 2, 1, 0] : List (Fin 20)) := by decide
  refine View.read_writes_apply_of_pieces _ f _ _ (fun p hp => ?_) y
    ⟨wpiece arg3 arg4 f3 f4 g, List.mem_map.2 ⟨g, hg g, rfl⟩, ?_⟩
  · obtain ⟨g, -, rfl⟩ := List.mem_map.1 hp
    exact wpiece_at arg3 arg4 f3 f4 g
  · refine (Rect.mem_set_unit (inb := woff_inb g)).2 fun a => ?_
    match a with
    | 0 => show 128 * ((y 0).val / 128) ≤ (y 0).val ∧ (y 0).val < 128 * ((y 0).val / 128) + 128; omega
    | 1 => show 0 ≤ (y 1).val ∧ (y 1).val < 0 + 512; omega

end Cert.Proof
-- ==== Proof.RunA.lean ====
/- The body where it quantises. -/
module

public import proofs.«01_k».proof.Proof.KIShared
public import proofs.«01_k».proof.Proof.Loop
public import proofs.«01_k».proof.Proof.Weight
public import Idealize.ShloMosaic.Lib.VecWindow

@[expose] public section

set_option maxRecDepth 16384

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem run_A (c : Dev nD) (i : grid0.Coords) (arg2 : Memref sig .tc .vmem S1024x2560 .bf16) (harg2 : arg2.IsWhole) (arg3 : Memref sig .tc .vmem S1280x512 .i8) (harg3 : arg3.IsWhole) (arg4 : Memref sig .tc .vmem S20x512 .f32) (harg4 : arg4.IsWhole) (arg5 : Memref sig .tc .vmem S1024x512 .bf16) (harg5 : arg5.IsWhole) (arg6 : Memref sig .tc .vmem S1024x1280 .i8) (harg6 : arg6.IsWhole) (arg7 : Memref sig .tc .vmem S1024x20 .f32) (harg7 : arg7.IsWhole) (arg8 : Memref sig .tc .vmem S1024x20 .i8) (harg8 : arg8.IsWhole) (arg9 : Memref sig .tc .vmem S1024x2560 .bf16) (harg9 : arg9.IsWhole) (arg10 : Memref sig .tc .vmem S2560x512 .bf16) (harg10 : arg10.IsWhole) (hc0 : cond0_0 i)
    (x0 : Vec Ideal S1024x2560 .bf16) (x1 : Vec Ideal S1280x512 .i8) (x2 : Vec Ideal S20x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay2 (F := Ideal) (tA x0) (tW x1 x2)) ∗ owns (c : Thread nD τ) arg6 fullShare (tC x0) ∗ owns (c : Thread nD τ) arg7 fullShare (tS x0) ∗ owns (c : Thread nD τ) arg8 fullShare (tZ x0) ∗ owns (c : Thread nD τ) arg9 fullShare (tA x0) ∗ (∃ d, owns (c : Thread nD τ) arg10 fullShare d)) -∗ K ⟨⟩))
          ⊢ wp frame (wpE (defs₀ (F := Ideal)) Variants.none c none) E (cc0_atom_w4a4_linear i arg2 harg2 arg3 harg3 arg4 harg4 arg5 harg5 arg6 harg6 arg7 harg7 arg8 harg8 arg9 harg9 arg10 harg10) K := by
    intro E K
    simp only [cc0_atom_w4a4_linear_eq_skeleton]; unfold cc0_atom_w4a4_linear_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    have ew := weights_read arg3 arg4 (harg3.unread x1) (harg4.unread x2) arg10 arg10.view.junk
    rw [hf1, hf2] at ew
    have ea := loop_a Variants.none c none i arg2 harg2 arg3 harg3 arg4 harg4 arg5 harg5 arg6 harg6 arg7 harg7 arg8 harg8 arg9 harg9 arg10 harg10 hc0 (harg2.unread x0) fs0
    have ec := loop_c Variants.none c none i arg2 harg2 arg3 harg3 arg4 harg4 arg5 harg5 arg6 harg6 arg7 harg7 arg8 harg8 arg9 harg9 arg10 harg10 hc0 (harg2.unread x0) f4
    have es := loop_s Variants.none c none i arg2 harg2 arg3 harg3 arg4 harg4 arg5 harg5 arg6 harg6 arg7 harg7 arg8 harg8 arg9 harg9 arg10 harg10 hc0 (harg2.unread x0) f5
    have ez := loop_z Variants.none c none i arg2 harg2 arg3 harg3 arg4 harg4 arg5 harg5 arg6 harg6 arg7 harg7 arg8 harg8 arg9 harg9 arg10 harg10 hc0 (harg2.unread x0) f6
    rw [hf0] at ea ec es ez
    have e384 : run_A.sl.v384 c arg3 harg3 arg4 harg4 arg10 x1 x2 = tW x1 x2 :=
      (View.readAt_full _ _ _).trans ew
    have e383 : run_A.sl.v383 c i arg2 harg2 arg3 harg3 arg4 harg4 arg5 harg5 arg6 harg6 arg7 harg7 arg8 harg8 arg9 harg9 arg10 harg10 hc0 x0 fs0 = tA x0 := (View.readAt_full _ _ _).trans ea
    have E3 := (View.read_writes_full arg5.view f3 inb_S1024x512_S1024x512_0_0 (k0_pay2 (F := Ideal) _ _) []).trans
      (congrArg₂ (k0_pay2 (F := Ideal)) e383 e384)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; exact E3
    isplitl [H4]
    · iexists _; isplitr; swap; · iexact H4
      ipureintro; exact ec
    isplitl [H5]
    · iexists _; isplitr; swap; · iexact H5
      ipureintro; exact es
    isplitl [H6]
    · iexists _; isplitr; swap; · iexact H6
      ipureintro; exact ez
    isplitl [HS0]
    · iexists _; isplitr; swap; · iexact HS0
      ipureintro; exact ea
    iexists _, _; isplitr; swap; · iexact HS1
    ipureintro; rfl

end Cert.KernelIdeal.Hand

end
-- ==== Proof.RunB.lean ====
/- The body where it does not quantise: the block of `y` is the kept rows times the weights; all else stays. -/
module

public import proofs.«01_k».proof.Proof.RunA
public import proofs.«01_k».proof.Proof.Loop
public import proofs.«01_k».proof.Proof.Weight
public import Idealize.ShloMosaic.Lib.VecWindow

@[expose] public section

set_option maxRecDepth 16384

noncomputable section

namespace Cert.KernelIdeal.Hand

open Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem run_B (c : Dev nD) (i : grid0.Coords) (arg2 : Memref sig .tc .vmem S1024x2560 .bf16) (harg2 : arg2.IsWhole) (arg3 : Memref sig .tc .vmem S1280x512 .i8) (harg3 : arg3.IsWhole) (arg4 : Memref sig .tc .vmem S20x512 .f32) (harg4 : arg4.IsWhole) (arg5 : Memref sig .tc .vmem S1024x512 .bf16) (harg5 : arg5.IsWhole) (arg6 : Memref sig .tc .vmem S1024x1280 .i8) (harg6 : arg6.IsWhole) (arg7 : Memref sig .tc .vmem S1024x20 .f32) (harg7 : arg7.IsWhole) (arg8 : Memref sig .tc .vmem S1024x20 .i8) (harg8 : arg8.IsWhole) (arg9 : Memref sig .tc .vmem S1024x2560 .bf16) (harg9 : arg9.IsWhole) (arg10 : Memref sig .tc .vmem S2560x512 .bf16) (harg10 : arg10.IsWhole) (hc0 : ¬cond0_0 i)
    (x0 : Vec Ideal S1024x2560 .bf16) (x1 : Vec Ideal S1280x512 .i8) (x2 : Vec Ideal S20x512 .f32)
    (y4 : Vec Ideal S1024x1280 .i8) (y5 : Vec Ideal S1024x20 .f32) (y6 : Vec Ideal S1024x20 .i8) (a : Vec Ideal S1024x2560 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y4 ∗ owns (c : Thread nD τ) arg7 fullShare y5 ∗ owns (c : Thread nD τ) arg8 fullShare y6 ∗ owns (c : Thread nD τ) arg9 fullShare a ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay2 (F := Ideal) a (tW x1 x2)) ∗ owns (c : Thread nD τ) arg6 fullShare y4 ∗ owns (c : Thread nD τ) arg7 fullShare y5 ∗ owns (c : Thread nD τ) arg8 fullShare y6 ∗ owns (c : Thread nD τ) arg9 fullShare a ∗ (∃ d, owns (c : Thread nD τ) arg10 fullShare d)) -∗ K ⟨⟩))
          ⊢ wp frame (wpE (defs₀ (F := Ideal)) Variants.none c none) E (cc0_atom_w4a4_linear i arg2 harg2 arg3 harg3 arg4 harg4 arg5 harg5 arg6 harg6 arg7 harg7 arg8 harg8 arg9 harg9 arg10 harg10) K := by
    intro E K
    simp only [cc0_atom_w4a4_linear_eq_skeleton]; unfold cc0_atom_w4a4_linear_skel
    simp only [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%fs0, %hfs0, HS0⟩, ⟨%ds1, %fs1, -, HS1⟩, Hk⟩
    obtain rfl := harg2.eq_unread hf0; obtain rfl := harg3.eq_unread hf1; obtain rfl := harg4.eq_unread hf2
    obtain rfl := harg9.eq_unread hfs0
    sl_exec (disch := first | sl_exact hc0)
    sl_step
    have ew := weights_read arg3 arg4 (harg3.unread x1) (harg4.unread x2) arg10 arg10.view.junk
    rw [hf1, hf2] at ew
    have e384 : run_B.sl.v384 c arg3 harg3 arg4 harg4 arg10 x1 x2 = tW x1 x2 :=
      (View.readAt_full _ _ _).trans ew
    have E3 := (View.read_writes_full arg5.view f3 inb_S1024x512_S1024x512_0_0 (k0_pay2 (F := Ideal) _ _) []).trans
      (congrArg₂ (k0_pay2 (F := Ideal)) ((View.readAt_full arg9.view (harg9.unread a) inb_S1024x2560_S1024x2560_0_0).trans hfs0) e384)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; exact E3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [HS0]
    · iexists _; isplitr; swap; · iexact HS0
      ipureintro; exact hfs0
    iexists _, _; isplitr; swap; · iexact HS1
    ipureintro; rfl

end Cert.KernelIdeal.Hand

end
-- ==== Proof.KIFrame.lean ====
/- What the kernel holds at every point of its grid, over the extended reals: the rows it keeps, the blocks it writes. -/
module

public import proofs.«01_k».proof.Proof.RunB
public import Idealize.ShloMosaic.Lib.Claim

@[expose] public section

set_option maxRecDepth 16384

noncomputable section

namespace Cert.KernelIdeal.Hand

open Cert.KernelIdeal.Gen hiding frame_of
open Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The block of rows, of packed weights and of weight scales at a point. -/
abbrev xb (c : Dev nD) (t : Fin cfg0.N) : Vec Ideal S1024x2560 .bf16 := iblk m c 0 t
abbrev pb (c : Dev nD) (t : Fin cfg0.N) : Vec Ideal S1280x512 .i8 := iblk m c 1 t
abbrev sb (c : Dev nD) (t : Fin cfg0.N) : Vec Ideal S20x512 .f32 := iblk m c 2 t

/-- Before point `p` the first scratch buffer holds the quantised rows of the block of the point before, unless `p`
    starts a new block of rows; nothing is said of the second. -/
def inv (c : Dev nD) (p : Fin (cfg0.N + 1)) : sProp 𝕄 :=
  iprop(iprop((∃ d, ⌜∀ t : Fin cfg0.N, t.val + 1 = p.val → p.val % 20 ≠ 0 → d = tA (xb m c t)⌝
      ∗ owns (c : Thread nD τ) scM0_0 fullShare d) ∗ (∃ d, owns (c : Thread nD τ) scM0_1 fullShare d)) ∗ (∃ r, prngReg c r))

/-- The proof data: what each staging buffer holds after the body at a point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (F := Ideal) (tA (xb m c t)) (tW (pb m c t) (sb m c t))
    | ⟨4, _⟩ => tC (xb m c t)
    | ⟨5, _⟩ => tS (xb m c t)
    | ⟨6, _⟩ => tZ (xb m c t)
  Φ p := inv m c p
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay2 (F := Ideal) (tA (xb m c t)) (tW (pb m c t) (sb m c t)) := by dsimp only [dats]
theorem after0_4 (c : Dev nD) (t : Fin cfg0.N) : (dats m 0 c).after 4 t = tC (xb m c t) := by dsimp only [dats]
theorem after0_5 (c : Dev nD) (t : Fin cfg0.N) : (dats m 0 c).after 5 t = tS (xb m c t) := by dsimp only [dats]
theorem after0_6 (c : Dev nD) (t : Fin cfg0.N) : (dats m 0 c).after 6 t = tZ (xb m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The point before. -/
abbrev prev (t : Fin cfg0.N) : Fin cfg0.N := ⟨t.val - 1, Nat.lt_of_le_of_lt (Nat.sub_le _ _) t.isLt⟩

/-- Within a block of rows the block does not move. -/
theorem xb_prev (c : Dev nD) (t : Fin cfg0.N) (h : t.val % 20 ≠ 0) : xb m c t = xb m c (prev t) := by
  have hf : (cfg0.win 0).fetch t = false := by
    cases hc : (cfg0.win 0).fetch t with
    | false => rfl
    | true => exact absurd ((fetch0_0 t).1 hc) h
  let d : S1024x2560.Idx → Elt Ideal .bf16 := fun _ => (0 : EReal)
  have e := (dats m 0 c).before_unfetched_in 0 rfl t hf (fun _ => rfl) d
  have e0 := before0_0 m c t d
  show iblk m c 0 t = _
  rw [← e0, e]
  unfold Dat.kept
  rw [after0_0]
  rfl

theorem liveAt_out {t : Fin cfg0.N} (h : t.val % 20 = 0) : (!(k0_cond1 (grid0.coords t) == 1#1)) = false := by
  have e : k0_cond1 (grid0.coords t) = 1#1 := (hcond0_0 t).2 h
  rw [e]; rfl

theorem idleAt_out {t : Fin cfg0.N} (h : t.val % 20 ≠ 0) : (!(k0_cond1 (grid0.coords t) == 1#1)) = true := by
  have e : ¬ k0_cond1 (grid0.coords t) = 1#1 := fun e => h ((hcond0_0 t).1 e)
  cases hb : (k0_cond1 (grid0.coords t) == 1#1) with
  | false => rfl
  | true => exact absurd (eq_of_beq hb) e

/-- An output written only where a block of rows starts holds what was written there until the block ends. -/
theorem before_kept (c : Dev nD) (w : Fin cfg0.W) (hw : (cfg0.win w).isOut = true)
    (hidle : ∀ i, cfg0.idle w i = !(k0_cond1 i == 1#1)) (hflush : ∀ t : Fin cfg0.N, (cfg0.win w).flush t = true ↔ t.val % 20 = 19)
    (hkept : ∀ t d, (dats m 0 c).kept w t d = (dats m 0 c).after w t)
    (hafter : ∀ t : Fin cfg0.N, t.val % 20 ≠ 0 → (dats m 0 c).after w t = (dats m 0 c).after w (prev t)) (d) :
    ∀ (n : ℕ) (hn : n < cfg0.N), n % 20 ≠ 0 → (dats m 0 c).before w ⟨n, hn⟩ d = (dats m 0 c).after w ⟨n, hn⟩ := by
  intro n
  induction n with
  | zero => intro _ h; exact absurd rfl h
  | succ k ih =>
    intro hn h
    have hk : k < cfg0.N := Nat.lt_of_succ_lt hn
    have hfl : (cfg0.win w).flush ⟨k, hk⟩ = false := by
      cases hc : (cfg0.win w).flush ⟨k, hk⟩ with
      | false => rfl
      | true =>
        have e : k % 20 = 19 := (hflush ⟨k, hk⟩).1 hc
        omega
    have e1 := (dats m 0 c).before_of_pos w ⟨k + 1, hn⟩ (Nat.succ_ne_zero k) ((cfg0.win w).fetch_out hw _) d
    have ea : (dats m 0 c).after w ⟨k + 1, hn⟩ = (dats m 0 c).after w ⟨k, hk⟩ := hafter ⟨k + 1, hn⟩ h
    rw [e1, ea]
    show (if (cfg0.win w).flush ⟨k, hk⟩ = true then d else (dats m 0 c).left w ⟨k, hk⟩ d) = _
    rw [hfl, if_neg Bool.false_ne_true]
    unfold Dat.left
    rw [hidle]
    by_cases h0 : k % 20 = 0
    · rw [show (!(k0_cond1 (cfg0.grid.coords ⟨k, hk⟩) == 1#1)) = false from liveAt_out (t := ⟨k, hk⟩) h0]
      exact hkept _ _
    · rw [show (!(k0_cond1 (cfg0.grid.coords ⟨k, hk⟩) == 1#1)) = true from idleAt_out (t := ⟨k, hk⟩) h0]
      exact ih hk h0

theorem before0_4 (c : Dev nD) (t : Fin cfg0.N) (h : t.val % 20 ≠ 0) (d) : (dats m 0 c).before 4 t d = (dats m 0 c).after 4 t :=
  before_kept m c 4 rfl (fun _ => rfl) flush0_4 (fun _ _ => rfl)
    (fun t h => by rw [after0_4, after0_4, xb_prev m c t h]) d t.val t.isLt h
theorem before0_5 (c : Dev nD) (t : Fin cfg0.N) (h : t.val % 20 ≠ 0) (d) : (dats m 0 c).before 5 t d = (dats m 0 c).after 5 t :=
  before_kept m c 5 rfl (fun _ => rfl) flush0_5 (fun _ _ => rfl)
    (fun t h => by rw [after0_5, after0_5, xb_prev m c t h]) d t.val t.isLt h
theorem before0_6 (c : Dev nD) (t : Fin cfg0.N) (h : t.val % 20 ≠ 0) (d) : (dats m 0 c).before 6 t d = (dats m 0 c).after 6 t :=
  before_kept m c 6 rfl (fun _ => rfl) flush0_6 (fun _ _ => rfl)
    (fun t h => by rw [after0_6, after0_6, xb_prev m c t h]) d t.val t.isLt h

end Cert.KernelIdeal.Hand

end
-- ==== Proof.KIBody.lean ====
/- The body at every point of the grid, and the run of the whole kernel over the extended reals. -/
module

public import proofs.«01_k».proof.Proof.KIFrame

@[expose] public section

set_option maxRecDepth 16384

noncomputable section

namespace Cert.KernelIdeal.Hand

open Cert.KernelIdeal.Gen hiding frame_of
open Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A buffer holding what the body leaves is left as the obligation asks, wherever the point is; for the outputs not
    written at the point, because that is also what it found. -/
theorem leaves_of_after (c : Dev nD) (w : Fin cfg0.W) (t : Fin cfg0.N) (h : cfg0.idle w (cfg0.grid.coords t) = false) :
    owns (c : Thread nD τ) ((cfg0.win w).stage (cfg0.slots t w)) fullShare ((dats m 0 c).after w t) ⊢ (dats m 0 c).leavesExact w t := by
  unfold Dat.leavesExact; rw [h]

theorem leaves_of_kept (c : Dev nD) (w : Fin cfg0.W) (t : Fin cfg0.N)
    (hb : ∀ d, (dats m 0 c).before w t d = (dats m 0 c).after w t) (d : (cfg0.win w).block.Idx → Elt Ideal (cfg0.win w).elt) :
    owns (c : Thread nD τ) ((cfg0.win w).stage (cfg0.slots t w)) fullShare ((dats m 0 c).after w t) ⊢ (dats m 0 c).leavesExact w t := by
  unfold Dat.leavesExact
  split
  · split
    · iintro H
      iexists d
      rw [hb d]
      iexact H
    · exact .rfl
  · exact .rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What the first scratch buffer is said to hold after a point is the quantised rows of that point's block. -/
theorem inv_succ (c : Dev nD) (t : Fin cfg0.N) :
    ∀ t' : Fin cfg0.N, t'.val + 1 = t.succ.val → t.succ.val % 20 ≠ 0 → tA (xb m c t) = tA (xb m c t') := by
  intro t' h _
  have e : t' = t := Fin.ext (by have : t.succ.val = t.val + 1 := rfl; omega)
  rw [e]

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.castSucc = inv m c t.castSucc from rfl, show (dats m 0 c).Φ t.succ = inv m c t.succ from rfl]
  unfold inv
  by_cases h0 : t.val % 20 = 0
  · iintro ⟨⟨⟨⟨%ds, %hs, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((run_A c (grid0.coords t) _ _ _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexists _; iexact HS0
    isplitl [HS1]; · iexact HS1
    iintro ⟨H0, H1, H2, H3, H4, H5, H6, HS0, HS1⟩
    isplitl [HS0 HS1 Hg]
    · isplitl [HS0 HS1]
      · isplitl [HS0]
        · iexists _
          isplitr [HS0]
          · ipureintro; exact inv_succ m c t
          iexact HS0
        iexact HS1
      iexact Hg
    isplitl [Ho]; · iexact Ho
    isplitl [H0]; · iapply (leaves_of_after m c 0 t rfl); rw [after0_0]; iexact H0
    isplitl [H1]; · iapply (leaves_of_after m c 1 t rfl); rw [after0_1]; iexact H1
    isplitl [H2]; · iapply (leaves_of_after m c 2 t rfl); rw [after0_2]; iexact H2
    isplitl [H3]; · iapply (leaves_of_after m c 3 t rfl); rw [after0_3]; iexact H3
    isplitl [H4]; · iapply (leaves_of_after m c 4 t (liveAt_out h0)); rw [after0_4]; iexact H4
    isplitl [H5]; · iapply (leaves_of_after m c 5 t (liveAt_out h0)); rw [after0_5]; iexact H5
    iapply (leaves_of_after m c 6 t (liveAt_out h0)); rw [after0_6]; iexact H6
  · simp only [before0_4 m c t h0, before0_5 m c t h0, before0_6 m c t h0]
    iintro ⟨⟨⟨⟨%ds, %hs, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
    have es : ds = tA (xb m c t) := by
      rw [xb_prev m c t h0]
      exact hs (prev t) (by show t.val - 1 + 1 = t.val; omega) h0
    iapply ((run_B c (grid0.coords t) _ _ _ _ _ _ _ _ _ _ _ _ _ _ _ _ _ _ (fun h => h0 ((hcond0_0 t).mp h)) (iblk m c 0 t) (iblk m c 1 t) (iblk m c 2 t)
      ((dats m 0 c).after 4 t) ((dats m 0 c).after 5 t) ((dats m 0 c).after 6 t) ds) Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexists _
          isplitr [HS0]
          · ipureintro; exact fun t' h h' => es.trans (inv_succ m c t t' h h')
          iexact HS0
        iexact HS1
      iexact Hg
    isplitl [Ho]; · iexact Ho
    isplitl [H0]; · iapply (leaves_of_after m c 0 t rfl); rw [after0_0]; iexact H0
    isplitl [H1]; · iapply (leaves_of_after m c 1 t rfl); rw [after0_1]; iexact H1
    isplitl [H2]; · iapply (leaves_of_after m c 2 t rfl); rw [after0_2]; iexact H2
    isplitl [H3]; · iapply (leaves_of_after m c 3 t rfl); rw [after0_3, ← es]; iexact H3
    isplitl [H4]; · iapply (leaves_of_kept m c 4 t (before0_4 m c t h0) d4); iexact H4
    isplitl [H5]; · iapply (leaves_of_kept m c 5 t (before0_5 m c t h0) d5); iexact H5
    iapply (leaves_of_kept m c 6 t (before0_6 m c t h0) d6); iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The run starts with the scratch buffers at anything, and nothing more is said of them at its end. -/
theorem inv_in (c : Dev nD) : Pipeline.ΦA spec0 c ⊢ (dats m 0 c).Φ 0 := by
  rw [show (dats m 0 c).Φ 0 = inv m c 0 from rfl, PhiA0_eq]
  unfold inv
  iintro ⟨⟨⟨%d, HS0⟩, HS1⟩, Hg⟩
  isplitl [HS0 HS1]
  · isplitl [HS0]
    · iexists d
      isplitr [HS0]
      · ipureintro; exact fun t _ h => absurd rfl h
      iexact HS0
    iexact HS1
  iexact Hg

theorem inv_out (c : Dev nD) : (dats m 0 c).Φ (Fin.last cfg0.N) ⊢ Pipeline.ΦA spec0 c := by
  rw [show (dats m 0 c).Φ (Fin.last cfg0.N) = inv m c (Fin.last cfg0.N) from rfl, PhiA0_eq]
  unfold inv
  iintro ⟨⟨⟨%d, %hd, HS0⟩, HS1⟩, Hg⟩
  isplitl [HS0 HS1]
  · isplitl [HS0]
    · iexists d; iexact HS0
    iexact HS1
  iexact Hg

set_option backward.isDefEq.respectTransparency.types false in
theorem run_main_quiescent : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := Ideal))) (s₀ m ρ) (Pipeline.FramePost cfgs (dats m) 0 (V m)) :=
  (θ_run defs _ _).mono (fun _ h => h.1) (run_main_quiescent m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_of m ρ (dats m) (A_eq m) (run_main m ρ)

/-- The kernel over the extended reals runs to its end, leaves its arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.KIValue.lean ====
/- The four arrays the kernel leaves over the extended reals, as functions of the three it is given. -/
module

public import proofs.«01_k».proof.Proof.KIBody
public import Idealize.ShloMosaic.Lib.Pipeline.ValueKit

@[expose] public section

set_option maxRecDepth 16384

noncomputable section

namespace Cert.Proof

open Idealize.ShloMosaic

/-- The product of the rows with the weights. -/
def tY {r n : ℕ} (A : (⟨2, ![r, 2560]⟩ : Shape).Idx → EReal) (W : (⟨2, ![2560, n]⟩ : Shape).Idx → EReal) :
    (⟨2, ![r, n]⟩ : Shape).Idx → EReal := fun j => ∑ k : Fin 2560, A (ix2 (j 0) k) * W (ix2 k (j 1))

end Cert.Proof

namespace Cert.KernelIdeal.Hand

open Cert.KernelIdeal.Gen hiding frame_of
open Cert.Proof
open Idealize.ShloMosaic Idealize.ShloMosaic.TcCoe Idealize.ShloMosaic.Tactic
open Idealize.SL Idealize.SL.RA
open Idealize.ShloMosaic.Pipeline (Dat Cfg Window)

variable (m : (ℓ : Loc nD τ sig) → Buf (Elt Ideal) ℓ)

/-- The rows, packed weights and weight scales as the grid finds them. -/
abbrev Xv (c : Dev nD) : S8192x2560.Idx → EReal := V m c main_v0
abbrev Pv (c : Dev nD) : S1280x10240.Idx → BitVec 8 := V m c main_arg1
abbrev Sv (c : Dev nD) : S20x10240.Idx → EReal := V m c main_arg2

theorem ix0 : ∀ t : Fin cfg0.N, win0_0.index t = ![t.val / 20, 0] := by
  exact (by decide +kernel : ∀ t : Fin grid0.N, win0_0.index t = ![t.val / 20, 0])
theorem ix1 : ∀ t : Fin cfg0.N, win0_1.index t = ![0, t.val % 20] := by
  exact (by decide +kernel : ∀ t : Fin grid0.N, win0_1.index t = ![0, t.val % 20])
theorem ix2' : ∀ t : Fin cfg0.N, win0_2.index t = ![0, t.val % 20] := by
  exact (by decide +kernel : ∀ t : Fin grid0.N, win0_2.index t = ![0, t.val % 20])
theorem ix3 : ∀ t : Fin cfg0.N, win0_3.index t = ![t.val / 20, t.val % 20] := by
  exact (by decide +kernel : ∀ t : Fin grid0.N, win0_3.index t = ![t.val / 20, t.val % 20])
theorem ix4 : ∀ t : Fin cfg0.N, win0_4.index t = ![t.val / 20, 0] := by
  exact (by decide +kernel : ∀ t : Fin grid0.N, win0_4.index t = ![t.val / 20, 0])
theorem ix5 : ∀ t : Fin cfg0.N, win0_5.index t = ![t.val / 20, 0] := by
  exact (by decide +kernel : ∀ t : Fin grid0.N, win0_5.index t = ![t.val / 20, 0])
theorem ix6 : ∀ t : Fin cfg0.N, win0_6.index t = ![t.val / 20, 0] := by
  exact (by decide +kernel : ∀ t : Fin grid0.N, win0_6.index t = ![t.val / 20, 0])

theorem N_lt (t : Fin cfg0.N) : t.val < 160 := lt_of_lt_of_eq t.isLt (show cfg0.N = 160 from N_0)

/-- Row `r` of the block of rows at a point, in the whole matrix. -/
def rowAt (t : Fin cfg0.N) (r : Fin 1024) : Fin 8192 :=
  ⟨1024 * (t.val / 20) + r.val, by have := N_lt t; have := r.isLt; omega⟩
/-- Column `l` of the block of weights at a point, in the whole matrix. -/
def colAt (t : Fin cfg0.N) (l : Fin 512) : Fin 10240 :=
  ⟨512 * (t.val % 20) + l.val, by have := l.isLt; omega⟩

theorem xb_at (c : Dev nD) (t : Fin cfg0.N) (r : Fin 1024) (l : Fin 2560) :
    xb m c t (ix2 r l) = Xv m c (ix2 (rowAt t r) l) := by
  show iblk m c 0 t (ix2 r l) = _
  blk_simp [iblk]
  congr 1
  blk_ext [ix0, rowAt]

theorem pb_at (c : Dev nD) (t : Fin cfg0.N) (r : Fin 1280) (l : Fin 512) :
    pb m c t (ix2 r l) = Pv m c (ix2 r (colAt t l)) := by
  show iblk m c 1 t (ix2 r l) = _
  blk_simp [iblk]
  congr 1
  blk_ext [ix1, colAt]

theorem sb_at (c : Dev nD) (t : Fin cfg0.N) (r : Fin 20) (l : Fin 512) :
    sb m c t (ix2 r l) = Sv m c (ix2 r (colAt t l)) := by
  show iblk m c 2 t (ix2 r l) = _
  blk_simp [iblk]
  congr 1
  blk_ext [ix2', colAt]

theorem grp_at (c : Dev nD) (t : Fin cfg0.N) (r : Fin 1024) (g : Fin 20) :
    grp (xb m c t) r g = grp (Xv m c) (rowAt t r) g := by
  funext k
  exact xb_at m c t r _

theorem tA_block (c : Dev nD) (t : Fin cfg0.N) (r : Fin 1024) (l : Fin 2560) :
    tA (xb m c t) (ix2 r l) = tA (Xv m c) (ix2 (rowAt t r) l) := by
  unfold tA
  rw [show grp (xb m c t) ((ix2 r l) 0) _ = _ from grp_at m c t r _]
  rfl

theorem tW_block (c : Dev nD) (t : Fin cfg0.N) (r : Fin 2560) (l : Fin 512) :
    tW (pb m c t) (sb m c t) (ix2 r l) = tW (Pv m c) (Sv m c) (ix2 r (colAt t l)) := by
  unfold tW
  rw [show sb m c t (ix2 _ ((ix2 r l) 1)) = _ from sb_at m c t _ l, show pb m c t (ix2 _ ((ix2 r l) 1)) = _ from pb_at m c t _ l]
  rfl

theorem pay2_at (a : Vec Ideal S1024x2560 .bf16) (w : Vec Ideal S2560x512 .bf16) (r : Fin 1024) (l : Fin 512) :
    k0_pay2 (F := Ideal) a w (ix2 r l) = ∑ k : Fin 2560, a (ix2 r k) * w (ix2 k l) := by
  pointwise [k0_pay2]

theorem y_block (c : Dev nD) (t : Fin cfg0.N) (r : Fin 1024) (l : Fin 512) :
    k0_pay2 (F := Ideal) (tA (xb m c t)) (tW (pb m c t) (sb m c t)) (ix2 r l)
      = tY (tA (Xv m c)) (tW (Pv m c) (Sv m c)) (ix2 (rowAt t r) (colAt t l)) := by
  rw [pay2_at]
  refine Finset.sum_congr rfl fun k _ => ?_
  rw [tA_block, tW_block]
  rfl

theorem final_y (c : Dev nD) : (dats m 0 c).arrAt 3 cfg0.N = tY (tA (Xv m c)) (tW (Pv m c) (Sv m c)) := by
  refine (dats m 0 c).arrAt_eq_of_covers 3 _ (by decide +kernel) fun t hf y => ?_
  blk_simp
  rw [after0_3]
  obtain ⟨r, l, rfl⟩ : ∃ (r : Fin 1024) (l : Fin 512), y = ix2 r l := ⟨y 0, y 1, eq_ix2 y⟩
  have e : (win0_3.blk t).view.emb (ix2 r l) = ix2 (rowAt t r) (colAt t l) := by
    blk_ext [ix3, rowAt, colAt]
  exact (y_block m c t r l).trans (congrArg (tY (tA (Xv m c)) (tW (Pv m c) (Sv m c))) e.symm)

theorem final_c (c : Dev nD) : (dats m 0 c).arrAt 4 cfg0.N = tC (Xv m c) := by
  refine (dats m 0 c).arrAt_eq_of_covers 4 _ (by decide +kernel) fun t hf y => ?_
  blk_simp
  rw [after0_4]
  obtain ⟨r, l, rfl⟩ : ∃ (r : Fin 1024) (l : Fin 1280), y = ix2 r l := ⟨y 0, y 1, eq_ix2 y⟩
  have e : (win0_4.blk t).view.emb (ix2 r l) = ix2 (rowAt t r) l := by
    blk_ext [ix4, rowAt]
  refine Eq.trans ?_ (congrArg (tC (Xv m c)) e.symm)
  unfold tC
  rw [show grp (xb m c t) ((ix2 r l) 0) _ = _ from grp_at m c t r _]
  rfl

theorem final_s (c : Dev nD) : (dats m 0 c).arrAt 5 cfg0.N = tS (Xv m c) := by
  refine (dats m 0 c).arrAt_eq_of_covers 5 _ (by decide +kernel) fun t hf y => ?_
  blk_simp
  rw [after0_5]
  obtain ⟨r, l, rfl⟩ : ∃ (r : Fin 1024) (l : Fin 20), y = ix2 r l := ⟨y 0, y 1, eq_ix2 y⟩
  have e : (win0_5.blk t).view.emb (ix2 r l) = ix2 (rowAt t r) l := by
    blk_ext [ix5, rowAt]
  refine Eq.trans ?_ (congrArg (tS (Xv m c)) e.symm)
  exact congrArg qscale (grp_at m c t r l)

theorem final_z (c : Dev nD) : (dats m 0 c).arrAt 6 cfg0.N = tZ (Xv m c) := by
  refine (dats m 0 c).arrAt_eq_of_covers 6 _ (by decide +kernel) fun t hf y => ?_
  blk_simp
  rw [after0_6]
  obtain ⟨r, l, rfl⟩ : ∃ (r : Fin 1024) (l : Fin 20), y = ix2 r l := ⟨y 0, y 1, eq_ix2 y⟩
  have e : (win0_6.blk t).view.emb (ix2 r l) = ix2 (rowAt t r) l := by
    blk_ext [ix6, rowAt]
  refine Eq.trans ?_ (congrArg (tZ (Xv m c)) e.symm)
  exact congrArg (fun f => codeByte (qzp f)) (grp_at m c t r l)

/-- The rows are the first argument's, its two outer axes as one. -/
theorem Xv_eq (c : Dev nD) : Xv m c = shapeCast S8192x2560 (m ((c : Thread nD τ).loc main_arg0)) shapeCasts_S16x512x2560_S8192x2560 := by
  show StableHlo.after hostOps0 (fun b => m (c, b)) main_v0 = _
  simp only [hostOps0]
  after_results_simp
  rfl

open Idealize.SL.Sem in
/-- The kernel over the extended reals: its four results and its arguments at the end. -/
theorem results (ρ : Dev nD → PrngReg) : θ_run defs (onTc (τ := τ) (main (F := Ideal))) ⟨m, fun _ => 0, ρ⟩ (fun r => ∀ c : Dev nD,
      r.2.mem ((c.tc : Thread nD τ).loc main_v1_0) = tY (tA (Xv m c)) (tW (Pv m c) (Sv m c))
      ∧ r.2.mem ((c.tc : Thread nD τ).loc main_v1_1) = tC (Xv m c)
      ∧ r.2.mem ((c.tc : Thread nD τ).loc main_v1_2) = tS (Xv m c)
      ∧ r.2.mem ((c.tc : Thread nD τ).loc main_v1_3) = tZ (Xv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h.1 c).1 3).trans (final_y m c), ((h.1 c).1 4).trans (final_c m c), ((h.1 c).1 5).trans (final_s m c),
      ((h.1 c).1 6).trans (final_z m c), (h.2 c).1, (h.2 c).2.1, (h.2 c).2.2⟩)
    (θ_run_and (run_main m ρ) (unchanged m ρ))

end Cert.KernelIdeal.Hand

end
-- ==== Proof.Ref.lean ====
/- The reference's quantiser read element by element: each step as a function of the values before it. -/
module

public import proofs.«01_k».proof.Proof.Gen.ReferenceIdeal.Run
public import proofs.«01_k».proof.Proof.Bounds
public import Idealize.ShloMosaic.Lib.Pointwise

@[expose] public section

set_option maxRecDepth 16384

noncomputable section

namespace Cert.ReferenceIdeal.Hand

open Idealize.ShloMosaic Cert.ReferenceIdeal Cert.ReferenceIdeal.Gen Cert.Proof

/-- Group `g` of a row. -/
def rgrp (x : FVec Ideal S16x512x2560 .bf16) (b : Fin 16) (s : Fin 512) (g : Fin 20) : Group :=
  fun k => x (ix3 b s ⟨128 * g.val + k.val, by have := g.isLt; have := k.isLt; show _ < 2560; omega⟩)

/-! ## The steps -/

/-- One value per group, given to each of its elements. -/
def spreadG {α : Type} (v : S16x512x20.Idx → α) : S16x512x20x128.Idx → α :=
  broadcastInDim S16x512x20x128 ![0, 1, 2, 3] bcast_S16x512x20x1_S16x512x20x128_0_1_2_3
    (broadcastInDim S16x512x20x1 ![0, 1, 2] bcast_S16x512x20_S16x512x20x1_0_1_2 v)
def gx (x : FVec Ideal S16x512x2560 .bf16) : FVec Ideal S16x512x20x128 .f32 :=
  shapeCast _ (extf .f32 x bitsLt_bf16_f32) shapeCasts_S16x512x2560_S16x512x20x128
def rmin (v : FVec Ideal S16x512x20x128 .f32) : FVec Ideal S16x512x20 .f32 :=
  Host.reduce FloatOps.minimumf v (constant S_ .f32 0x7F800000#32) reducesTo_S16x512x20x128_S16x512x20_d3 h_S_
def rmax (v : FVec Ideal S16x512x20x128 .f32) : FVec Ideal S16x512x20 .f32 :=
  Host.reduce FloatOps.maximumf v (constant S_ .f32 0xFF800000#32) reducesTo_S16x512x20x128_S16x512x20_d3 h_S_
def min0 (v : FVec Ideal S16x512x20 .f32) : FVec Ideal S16x512x20 .f32 :=
  minimumf (broadcastInDim S16x512x20 ![] bcast_S_S16x512x20 (constant S_ .f32 0x00000000#32)) v
def max0 (v : FVec Ideal S16x512x20 .f32) : FVec Ideal S16x512x20 .f32 :=
  maximumf (broadcastInDim S16x512x20 ![] bcast_S_S16x512x20 (constant S_ .f32 0x00000000#32)) v
def scaleOf (hi lo : FVec Ideal S16x512x20 .f32) : FVec Ideal S16x512x20 .f32 :=
  select (cmpf .oeq hi lo) (broadcastInDim S16x512x20 ![] bcast_S_S16x512x20 (constant S_ .f32 0x3F800000#32))
    (Host.divf (subf hi lo) (broadcastInDim S16x512x20 ![] bcast_S_S16x512x20 (constant S_ .f32 0x41700000#32)))
def zpOf (lo sc : FVec Ideal S16x512x20 .f32) : FVec Ideal S16x512x20 .f32 := Host.roundeven (Host.divf (Host.negf lo) sc)
def codeOf (v : FVec Ideal S16x512x20x128 .f32) (sc zp : FVec Ideal S16x512x20 .f32) : FVec Ideal S16x512x20x128 .f32 :=
  minimumf (broadcastInDim S16x512x20x128 ![] bcast_S_S16x512x20x128 (id (constant S_ .f32 0x41700000#32)))
    (maximumf (broadcastInDim S16x512x20x128 ![] bcast_S_S16x512x20x128 (id (constant S_ .f32 0x00000000#32)))
      (addf (Host.roundeven (Host.divf v (spreadG sc))) (spreadG zp)))
def byteOf {s : Shape} (v : FVec Ideal s .f32) : IVec s 8 := trunci 8 (fptosi 32 v) natLt_8_32

variable (b : Fin 16) (s : Fin 512) (g : Fin 20) (k : Fin 128)

theorem spreadG_at {α : Type} (v : S16x512x20.Idx → α) : spreadG v (ix4 b s g k) = v (ix3 b s g) := by
  pointwise [spreadG]
theorem gx_at (x : FVec Ideal S16x512x2560 .bf16) : gx x (ix4 b s g k) = rgrp x b s g k := by
  pointwise [gx]
  exact congrArg (fun l => x (ix3 b s l)) (Fin.ext (by show g.val * 128 + k.val = 128 * g.val + k.val; omega))
theorem rmin_at (v : FVec Ideal S16x512x20x128 .f32) :
    rmin v (ix3 b s g) = Finset.univ.fold min (Ideal.ofBits FTy.f32 0x7F800000#32) (fun k : Fin 128 => v (ix4 b s g k)) := by
  unfold rmin
  rw [Host.reduce_eq_fold, Shape.ReducesTo.fold_fiber_r4_a3]
  rfl
theorem rmax_at (v : FVec Ideal S16x512x20x128 .f32) :
    rmax v (ix3 b s g) = Finset.univ.fold max (Ideal.ofBits FTy.f32 0xFF800000#32) (fun k : Fin 128 => v (ix4 b s g k)) := by
  unfold rmax
  rw [Host.reduce_eq_fold, Shape.ReducesTo.fold_fiber_r4_a3]
  rfl
theorem min0_at (v : FVec Ideal S16x512x20 .f32) : min0 v (ix3 b s g) = min 0 (v (ix3 b s g)) := by
  pointwise [min0]
theorem max0_at (v : FVec Ideal S16x512x20 .f32) : max0 v (ix3 b s g) = max 0 (v (ix3 b s g)) := by
  pointwise [max0]
theorem scaleOf_at (hi lo : FVec Ideal S16x512x20 .f32) : scaleOf hi lo (ix3 b s g)
    = if hi (ix3 b s g) = lo (ix3 b s g) then 1
      else Ideal.div (hi (ix3 b s g) - lo (ix3 b s g)) (Ideal.ofBits FTy.f32 0x41700000#32) := by
  pointwise [scaleOf]
theorem zpOf_at (lo sc : FVec Ideal S16x512x20 .f32) : zpOf lo sc (ix3 b s g) = rnd (Ideal.div (0 - lo (ix3 b s g)) (sc (ix3 b s g))) := by
  pointwise [zpOf]
  rw [zero_sub]
theorem codeOf_at (v : FVec Ideal S16x512x20x128 .f32) (sc zp : FVec Ideal S16x512x20 .f32) : codeOf v sc zp (ix4 b s g k)
    = min (Ideal.ofBits FTy.f32 0x41700000#32)
        (max 0 (rnd (Ideal.div (v (ix4 b s g k)) (sc (ix3 b s g))) + zp (ix3 b s g))) := by
  pointwise [codeOf, spreadG_at, id_eq]
theorem byteOf_at {s : Shape} (v : FVec Ideal s .f32) (j : s.Idx) : byteOf v j = codeByte (v j) := by
  pointwise [byteOf]
  rfl

/-! ## The quantiser -/

variable (x : FVec Ideal S16x512x2560 .bf16)

def glo : FVec Ideal S16x512x20 .f32 := min0 (rmin (gx x))
def ghi : FVec Ideal S16x512x20 .f32 := max0 (rmax (gx x))
def gscale : FVec Ideal S16x512x20 .f32 := scaleOf (ghi x) (glo x)
def gzp : FVec Ideal S16x512x20 .f32 := zpOf (glo x) (gscale x)
def gcode : FVec Ideal S16x512x20x128 .f32 := codeOf (gx x) (gscale x) (gzp x)

theorem glo_at : glo x (ix3 b s g) = qlo (rgrp x b s g) := by
  unfold glo
  rw [min0_at, rmin_at]
  simp only [gx_at]
  rfl
theorem ghi_at : ghi x (ix3 b s g) = qhi (rgrp x b s g) := by
  unfold ghi
  rw [max0_at, rmax_at]
  simp only [gx_at]
  rfl
theorem gscale_at : gscale x (ix3 b s g) = qscale (rgrp x b s g) := by
  unfold gscale
  rw [scaleOf_at, ghi_at, glo_at]
  rfl
theorem gzp_at : gzp x (ix3 b s g) = qzp (rgrp x b s g) := by
  unfold gzp
  rw [zpOf_at, glo_at, gscale_at]
  rfl
theorem gcode_at : gcode x (ix4 b s g k) = qcode (rgrp x b s g) k := by
  unfold gcode
  rw [codeOf_at, gx_at, gscale_at, gzp_at]
  rfl

end Cert.ReferenceIdeal.Hand

end
-- ==== Proof.RefAct.lean ====
/- The reference's activations, weights and products read element by element. -/
module

public import proofs.«01_k».proof.Proof.Ref
public import proofs.«01_k».proof.Proof.Weight

@[expose] public section

set_option maxRecDepth 16384

noncomputable section

namespace Cert.ReferenceIdeal.Hand

open Idealize.ShloMosaic Cert.ReferenceIdeal Cert.ReferenceIdeal.Gen Cert.Proof

/-! ## The steps -/

/-- The codes less their group's zero point, times the group's scale. -/
def valOf (cb : IVec S16x512x20x128 8) (zb : IVec S16x512x20 8) (sc : FVec Ideal S16x512x20 .f32) :
    FVec Ideal S16x512x20x128 .bf16 :=
  mulf (sitofp .bf16 (subi (extui 32 cb natLt_8_32) (spreadG (extui 32 zb natLt_8_32))))
    (spreadG (truncf .bf16 sc bitsLt_bf16_f32))
def rowsOf {α : Type} (v : S16x512x20x128.Idx → α) : S16x512x2560.Idx → α :=
  shapeCast S16x512x2560 v shapeCasts_S16x512x20x128_S16x512x2560
def evens {α : Type} (v : S16x512x2560.Idx → α) : S16x512x1280.Idx → α :=
  Host.slice S16x512x1280 ![0, 0, 0] ![1, 1, 2] v slicesBy_S16x512x2560_S16x512x1280_0s1_0s1_0s2
def odds {α : Type} (v : S16x512x2560.Idx → α) : S16x512x1280.Idx → α :=
  Host.slice S16x512x1280 ![0, 0, 1] ![1, 1, 2] v slicesBy_S16x512x2560_S16x512x1280_0s1_0s1_1s2
/-- Two rows of codes in one row of bytes. -/
def packOf (cb : IVec S16x512x2560 8) : IVec S16x512x1280 8 :=
  trunci 8 (ori (evens (extui 32 cb natLt_8_32))
    (Host.shli (odds (extui 32 cb natLt_8_32)) (broadcastInDim S16x512x1280 ![] bcast_S_S16x512x1280 (constantI S_ 32 4#32)))) natLt_8_32
def lowOf (p : IVec S1280x10240 8) : IVec S1280x10240 32 :=
  andi (extui 32 p natLt_8_32) (broadcastInDim S1280x10240 ![] bcast_S_S1280x10240 (constantI S_ 32 15#32))
def highOf (p : IVec S1280x10240 8) : IVec S1280x10240 32 :=
  Host.shrsi (extui 32 p natLt_8_32) (broadcastInDim S1280x10240 ![] bcast_S_S1280x10240 (constantI S_ 32 4#32))
/-- The signed number of four bits, times its scale. -/
def wOf (v : IVec S1280x10240 32) (sc : FVec Ideal S20x10240 .f32) : FVec Ideal S1280x10240 .bf16 :=
  mulf (sitofp .bf16 (select (cmpi .sge v (broadcastInDim S1280x10240 ![] bcast_S_S1280x10240 (constantI S_ 32 8#32)))
      (subi v (broadcastInDim S1280x10240 ![] bcast_S_S1280x10240 (constantI S_ 32 16#32))) v))
    (shapeCast _ (broadcastInDim S20x64x10240 ![0, 2] bcast_S20x10240_S20x64x10240_0_2 (truncf .bf16 sc bitsLt_bf16_f32))
      shapeCasts_S20x64x10240_S1280x10240)
def dotOf (a : FVec Ideal S16x512x1280 .bf16) (w : FVec Ideal S1280x10240 .bf16) : FVec Ideal S16x512x10240 .f32 :=
  Host.dotGeneral dot_S16x512x1280_S1280x10240_S16x512x10240_2_0_01_1_n_n none a w

variable (b : Fin 16) (s : Fin 512) (g : Fin 20) (k : Fin 128)

theorem valOf_at (cb : IVec S16x512x20x128 8) (zb : IVec S16x512x20 8) (sc : FVec Ideal S16x512x20 .f32) :
    valOf cb zb sc (ix4 b s g k)
      = (((((cb (ix4 b s g k)).setWidth 32 - (zb (ix3 b s g)).setWidth 32).toInt : ℝ) : EReal)) * sc (ix3 b s g) := by
  pointwise [valOf, spreadG_at]
  rfl
theorem rowsOf_at {α : Type} (v : S16x512x20x128.Idx → α) (l : Fin 2560) (h : l.val = 128 * g.val + k.val) :
    rowsOf v (ix3 b s l) = v (ix4 b s g k) := by
  have hk := k.isLt
  pointwise [rowsOf]
  have e1 : (⟨l.val / 128, by omega⟩ : Fin 20) = g := Fin.ext (by show l.val / 128 = g.val; omega)
  have e2 : (⟨l.val % 128, by omega⟩ : Fin 128) = k := Fin.ext (by show l.val % 128 = k.val; omega)
  rw [e1, e2]
theorem evens_at {α : Type} (v : S16x512x2560.Idx → α) (l : Fin 1280) :
    evens v (ix3 b s l) = v (ix3 b s ⟨2 * l.val, by have := l.isLt; omega⟩) := by
  pointwise [evens]
theorem odds_at {α : Type} (v : S16x512x2560.Idx → α) (l : Fin 1280) :
    odds v (ix3 b s l) = v (ix3 b s ⟨2 * l.val + 1, by have := l.isLt; omega⟩) := by
  pointwise [odds]
  exact congrArg (fun l => v (ix3 b s l)) (Fin.ext (Nat.add_comm _ _))
theorem packOf_at (cb : IVec S16x512x2560 8) (l : Fin 1280) : packOf cb (ix3 b s l)
    = ((cb (ix3 b s ⟨2 * l.val, by have := l.isLt; omega⟩)).setWidth 32
        ||| (cb (ix3 b s ⟨2 * l.val + 1, by have := l.isLt; omega⟩)).setWidth 32 <<< 4).setWidth 8 := by
  pointwise [packOf, evens_at, odds_at]
  rfl
theorem low_bits (p : BitVec 8) :
    (Scalar.select (IntOp.cmpi CmpIPredicate.sge (IntOp.andi (p.setWidth 32) 15#32) 8#32)
      (IntOp.subi (IntOp.andi (p.setWidth 32) 15#32) 16#32) (IntOp.andi (p.setWidth 32) 15#32)).toInt
      = (p.extractLsb' 0 4).toInt := by
  revert p
  decide +kernel
theorem low_at (p : IVec S1280x10240 8) (sc : FVec Ideal S20x10240 .f32) (j : Fin 1280) (n : Fin 10240) :
    wOf (lowOf p) sc (ix2 j n) = nib ((p (ix2 j n)).extractLsb' 0 4) * sc (ix2 ⟨j.val / 64, by have := j.isLt; omega⟩ n) := by
  pointwise [wOf, lowOf]
  exact congrArg (fun z : ℤ => ((z : ℝ) : EReal) * sc (ix2 _ n)) (low_bits _)
theorem high_bits (p : BitVec 8) :
    (Scalar.select (IntOp.cmpi CmpIPredicate.sge (IntOp.shrsi ArithUnit.host (p.setWidth 32) 4#32) 8#32)
      (IntOp.subi (IntOp.shrsi ArithUnit.host (p.setWidth 32) 4#32) 16#32) (IntOp.shrsi ArithUnit.host (p.setWidth 32) 4#32)).toInt
      = (p.extractLsb' 4 4).toInt := by
  revert p
  decide +kernel
theorem high_at (p : IVec S1280x10240 8) (sc : FVec Ideal S20x10240 .f32) (j : Fin 1280) (n : Fin 10240) :
    wOf (highOf p) sc (ix2 j n) = nib ((p (ix2 j n)).extractLsb' 4 4) * sc (ix2 ⟨j.val / 64, by have := j.isLt; omega⟩ n) := by
  pointwise [wOf, highOf]
  exact congrArg (fun z : ℤ => ((z : ℝ) : EReal) * sc (ix2 _ n)) (high_bits _)
theorem dotOf_at (a : FVec Ideal S16x512x1280 .bf16) (w : FVec Ideal S1280x10240 .bf16) (n : Fin 10240) :
    dotOf a w (ix3 b s n) = ∑ j : Fin 1280, a (ix3 b s j) * w (ix2 j n) := by
  pointwise [dotOf]

end Cert.ReferenceIdeal.Hand

end
-- ==== Proof.RefOut.lean ====
/- The reference's four results are the four functions of the rows of `x`. -/
module

public import proofs.«01_k».proof.Proof.RefAct
public import proofs.«01_k».proof.Proof.KIValue

@[expose] public section

set_option maxRecDepth 16384

noncomputable section

namespace Cert.ReferenceIdeal.Hand

open Idealize.ShloMosaic Cert.ReferenceIdeal Cert.ReferenceIdeal.Gen Cert.Proof

/-- A sum over pairs of rows is the sum over the even rows plus the sum over the odd ones. -/
theorem sum_pairs (f : Fin 2560 → EReal) : ∑ k, f k
    = (∑ j : Fin 1280, f ⟨2 * j.val, by have := j.isLt; omega⟩) + ∑ j : Fin 1280, f ⟨2 * j.val + 1, by have := j.isLt; omega⟩ := by
  rw [← Finset.sum_add_distrib]
  show ∑ k : Fin (1280 * 2), f k = _
  rw [← Equiv.sum_comp (finProdFinEquiv (m := 1280) (n := 2)), Fintype.sum_prod_type]
  refine Finset.sum_congr rfl fun j _ => ?_
  rw [Fin.sum_univ_two]
  exact congrArg₂ (· + ·) (congrArg f (Fin.ext (Nat.zero_add _))) (congrArg f (Fin.ext (Nat.add_comm _ _)))

variable (x : FVec Ideal S16x512x2560 .bf16) (P : IVec S1280x10240 8) (S : FVec Ideal S20x10240 .f32)

/-- The rows of `x`. -/
def flat : (⟨2, ![8192, 2560]⟩ : Shape).Idx → EReal :=
  shapeCast (⟨2, ![8192, 2560]⟩ : Shape) x Cert.KernelIdeal.Gen.shapeCasts_S16x512x2560_S8192x2560

abbrev hi (r : Fin 8192) : Fin 16 := ⟨r.val / 512, by have := r.isLt; omega⟩
abbrev lo (r : Fin 8192) : Fin 512 := ⟨r.val % 512, by omega⟩

theorem grp_flat (r : Fin 8192) (g : Fin 20) : grp (flat x) r g = rgrp x (hi r) (lo r) g := by
  funext k
  show flat x (ix2 r _) = _
  pointwise [flat, rgrp]

/-- The codes as bytes, as the quantiser returns them. -/
def codes : IVec S16x512x20x128 8 := id (byteOf (gcode x))
/-- The scales, as the quantiser returns them. -/
def scales : FVec Ideal S16x512x20 .f32 := id (gscale x)
/-- The zero points as bytes, as the quantiser returns them. -/
def zeros : IVec S16x512x20 8 := id (byteOf (gzp x))

theorem codes_at (b : Fin 16) (s : Fin 512) (g : Fin 20) (k : Fin 128) :
    codes x (ix4 b s g k) = codeByte (qcode (rgrp x b s g) k) := by
  unfold codes
  rw [id_eq, byteOf_at, gcode_at]
theorem scales_at (b : Fin 16) (s : Fin 512) (g : Fin 20) : scales x (ix3 b s g) = qscale (rgrp x b s g) := by
  unfold scales
  rw [id_eq, gscale_at]
theorem zeros_at (b : Fin 16) (s : Fin 512) (g : Fin 20) : zeros x (ix3 b s g) = codeByte (qzp (rgrp x b s g)) := by
  unfold zeros
  rw [id_eq, byteOf_at, gzp_at]

/-- The reference's activations. -/
def acts : FVec Ideal S16x512x2560 .bf16 := rowsOf (valOf (codes x) (zeros x) (scales x))

theorem acts_at (r : Fin 8192) (l : Fin 2560) : acts x (ix3 (hi r) (lo r) l) = tA (flat x) (ix2 r l) := by
  have hl := l.isLt
  have h : l.val = 128 * (⟨l.val / 128, by omega⟩ : Fin 20).val + (⟨l.val % 128, by omega⟩ : Fin 128).val := by
    show l.val = 128 * (l.val / 128) + l.val % 128
    omega
  rw [tA_at (flat x) r _ _ l h, grp_flat]
  unfold acts
  rw [rowsOf_at _ _ _ _ _ l h, valOf_at, codes_at, zeros_at, scales_at,
    sub_code (isCode_qcode _ _) (isCode_qzp _)]
  rfl

/-! ## The results -/

def out0 : FVec Ideal S8192x10240 .bf16 :=
  shapeCast _ (truncf .bf16 (addf (dotOf (evens (acts x)) (wOf (lowOf P) S)) (dotOf (odds (acts x)) (wOf (highOf P) S)))
    bitsLt_bf16_f32) shapeCasts_S16x512x10240_S8192x10240
def out1 : IVec S8192x1280 8 := shapeCast _ (packOf (rowsOf (codes x))) shapeCasts_S16x512x1280_S8192x1280
def out2 : FVec Ideal S8192x20 .f32 := shapeCast _ (scales x) shapeCasts_S16x512x20_S8192x20
def out3 : IVec S8192x20 8 := shapeCast _ (zeros x) shapeCasts_S16x512x20_S8192x20

theorem out0_read (v : FVec Ideal S16x512x10240 .f32) (w : FVec Ideal S16x512x10240 .f32) (r : Fin 8192) (n : Fin 10240) :
    (shapeCast S8192x10240 (truncf .bf16 (addf v w) bitsLt_bf16_f32) shapeCasts_S16x512x10240_S8192x10240) (ix2 r n)
      = v (ix3 (hi r) (lo r) n) + w (ix3 (hi r) (lo r) n) := by
  pointwise
theorem out1_read (v : IVec S16x512x1280 8) (r : Fin 8192) (l : Fin 1280) :
    (shapeCast S8192x1280 v shapeCasts_S16x512x1280_S8192x1280) (ix2 r l) = v (ix3 (hi r) (lo r) l) := by
  pointwise
theorem out2_read {α : Type} (v : S16x512x20.Idx → α) (r : Fin 8192) (l : Fin 20) :
    (shapeCast S8192x20 v shapeCasts_S16x512x20_S8192x20) (ix2 r l) = v (ix3 (hi r) (lo r) l) := by
  pointwise

theorem tW_at (k : Fin 2560) (j : Fin 1280) (q : Fin 2) (n : Fin 10240) (h : k.val = 2 * j.val + q.val) :
    tW P S (ix2 k n) = nib ((P (ix2 j n)).extractLsb' (4 * q.val) 4) * S (ix2 ⟨j.val / 64, by have := j.isLt; omega⟩ n) := by
  have hj := j.isLt
  have hq := q.isLt
  have e1 : (⟨k.val / 2, by omega⟩ : Fin 1280) = j := Fin.ext (by show k.val / 2 = j.val; omega)
  have e2 : k.val % 2 = q.val := by omega
  have e3 : (⟨k.val / 128, by omega⟩ : Fin 20) = ⟨j.val / 64, by omega⟩ := Fin.ext (by show k.val / 128 = j.val / 64; omega)
  show nib ((P (ix2 ⟨k.val / 2, _⟩ n)).extractLsb' (4 * (k.val % 2)) 4) * S (ix2 ⟨k.val / 128, _⟩ n) = _
  rw [e1, e2, e3]

theorem out0_eq : out0 x P S = tY (tA (flat x)) (tW P S) := by
  funext j
  obtain ⟨r, n, rfl⟩ : ∃ (r : Fin 8192) (n : Fin 10240), j = ix2 r n := ⟨j 0, j 1, eq_ix2 j⟩
  unfold out0
  rw [out0_read, dotOf_at, dotOf_at]
  refine Eq.trans ?_ (sum_pairs fun k => tA (flat x) (ix2 r k) * tW P S (ix2 k n)).symm
  refine congrArg₂ (· + ·) (Finset.sum_congr rfl fun j _ => ?_) (Finset.sum_congr rfl fun j _ => ?_)
  · rw [evens_at, acts_at, low_at, tW_at P S _ j 0 n rfl]
    rfl
  · rw [odds_at, acts_at, high_at, tW_at P S _ j 1 n rfl]
    rfl

theorem out1_eq : out1 x = tC (flat x) := by
  funext j
  obtain ⟨r, l, rfl⟩ : ∃ (r : Fin 8192) (l : Fin 1280), j = ix2 r l := ⟨j 0, j 1, eq_ix2 j⟩
  have hl := l.isLt
  have h : l.val = 64 * (⟨l.val / 64, by omega⟩ : Fin 20).val + (⟨l.val % 64, by omega⟩ : Fin 64).val := by
    show l.val = 64 * (l.val / 64) + l.val % 64
    omega
  rw [tC_at (flat x) r _ _ l h, grp_flat]
  unfold out1
  rw [out1_read, packOf_at,
    rowsOf_at _ _ ⟨l.val / 64, by omega⟩ ⟨2 * (l.val % 64), by omega⟩ _ ⟨2 * l.val, by omega⟩
      (by show 2 * l.val = 128 * (l.val / 64) + 2 * (l.val % 64); omega),
    rowsOf_at _ _ ⟨l.val / 64, by omega⟩ ⟨2 * (l.val % 64) + 1, by omega⟩ _ ⟨2 * l.val + 1, by omega⟩
      (by show 2 * l.val + 1 = 128 * (l.val / 64) + (2 * (l.val % 64) + 1); omega),
    codes_at, codes_at, pack_code]

theorem out2_eq : out2 x = tS (flat x) := by
  funext j
  obtain ⟨r, g, rfl⟩ : ∃ (r : Fin 8192) (g : Fin 20), j = ix2 r g := ⟨j 0, j 1, eq_ix2 j⟩
  unfold out2
  rw [out2_read, scales_at, ← grp_flat]
  rfl

theorem out3_eq : out3 x = tZ (flat x) := by
  funext j
  obtain ⟨r, g, rfl⟩ : ∃ (r : Fin 8192) (g : Fin 20), j = ix2 r g := ⟨j 0, j 1, eq_ix2 j⟩
  unfold out3
  rw [out2_read, zeros_at, ← grp_flat]
  rfl

end Cert.ReferenceIdeal.Hand

end
-- ==== Proof.RefRun.lean ====
/- The reference's run, its results stated as the functions of the rows of `x`. -/
module

public import proofs.«01_k».proof.Proof.RefOut

@[expose] public section

set_option maxRecDepth 16384

noncomputable section

namespace Cert.ReferenceIdeal.Hand

open Idealize.ShloMosaic Idealize.SL.Sem Cert.ReferenceIdeal Cert.ReferenceIdeal.Gen Cert.Proof

theorem res0 (m : (ℓ : Loc nD τ sig) → Buf (Elt Ideal) ℓ) (c : Dev nD) : Value.res_main_v76 m c
    = out0 (m ((c.tc : Thread nD τ).loc main_arg0)) (m ((c.tc : Thread nD τ).loc main_arg1)) (m ((c.tc : Thread nD τ).loc main_arg2)) := by
  unfold Value.res_main_v76
  rfl
theorem res1 (m : (ℓ : Loc nD τ sig) → Buf (Elt Ideal) ℓ) (c : Dev nD) : Value.res_main_v77 m c
    = out1 (m ((c.tc : Thread nD τ).loc main_arg0)) := by
  unfold Value.res_main_v77
  rfl

theorem results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76)
        = tY (tA (flat (m ((c.tc : Thread nD τ).loc main_arg0))))
            (tW (m ((c.tc : Thread nD τ).loc main_arg1)) (m ((c.tc : Thread nD τ).loc main_arg2)))
      ∧ r.2.mem ((c.tc : Thread nD τ).loc main_v77) = tC (flat (m ((c.tc : Thread nD τ).loc main_arg0)))
      ∧ r.2.mem ((c.tc : Thread nD τ).loc main_v78) = tS (flat (m ((c.tc : Thread nD τ).loc main_arg0)))
      ∧ r.2.mem ((c.tc : Thread nD τ).loc main_v79) = tZ (flat (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2, h3, h4⟩ := h c
    refine ⟨h0.trans ((res0 m c).trans (out0_eq _ _ _)), h1.trans ((res1 m c).trans (out1_eq _)),
      h2.trans (Eq.trans ?_ (out2_eq (m ((c.tc : Thread nD τ).loc main_arg0)))),
      h3.trans (Eq.trans ?_ (out3_eq (m ((c.tc : Thread nD τ).loc main_arg0)))), h4⟩
    · unfold out2 scales gscale ghi glo
      rfl
    · unfold out3 zeros gzp gscale ghi glo
      rfl) (Value.run m ρ)

end Cert.ReferenceIdeal.Hand

end
-- ==== Proof.lean ====
module

public import proofs.«01_k».proof.Defs
public import proofs.«01_k».proof.Proof.Host
public import proofs.«01_k».proof.Proof.KFrame
public import proofs.«01_k».proof.Proof.KIValue
public import proofs.«01_k».proof.Proof.RefRun

@[expose] public section

noncomputable section

namespace Cert.Proof

open Idealize.ShloMosaic Idealize.SL.Sem

/-- Both programs' results are the functions `tY`, `tC`, `tS`, `tZ` of the arguments. -/
theorem algebraic : algebraic_KernelIdeal_ReferenceIdeal (hKernelIdeal := Cert.KernelIdeal.Gen.facts)
    (hReferenceIdeal := Cert.ReferenceIdeal.Gen.facts) := by
  intro m g m' g' _ hargs
  refine ⟨_, _, _, _, Cert.KernelIdeal.Hand.results m g, ?_⟩
  refine (θ_run _ _ _).mono (fun r h c => ?_) (Cert.ReferenceIdeal.Hand.results m' g')
  obtain ⟨h0, h1, h2, h3, h4⟩ := h c
  obtain ⟨a0, a1, a2⟩ := hargs c
  have e : Cert.ReferenceIdeal.Hand.flat (m' ((c.tc : Thread Cert.ReferenceIdeal.nD Cert.ReferenceIdeal.τ).loc Cert.ReferenceIdeal.main_arg0))
      = Cert.KernelIdeal.Hand.Xv m c := by
    rw [Cert.KernelIdeal.Hand.Xv_eq, a0]
    rfl
  have e1 : m' ((c.tc : Thread Cert.ReferenceIdeal.nD Cert.ReferenceIdeal.τ).loc Cert.ReferenceIdeal.main_arg1) = Cert.KernelIdeal.Hand.Pv m c :=
    a1.trans (Cert.KernelIdeal.Gen.V_main_arg1 m c).symm
  have e2 : m' ((c.tc : Thread Cert.ReferenceIdeal.nD Cert.ReferenceIdeal.τ).loc Cert.ReferenceIdeal.main_arg2) = Cert.KernelIdeal.Hand.Sv m c :=
    a2.trans (Cert.KernelIdeal.Gen.V_main_arg2 m c).symm
  rw [e] at h0 h1 h2 h3
  rw [e1, e2] at h0
  exact ⟨h0, h1, h2, h3, h4⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, Cert.Proof.frame_r, trivial, algebraic⟩

end Cert.Proof

end
